-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S3x256x256 : Shape := ⟨3, ![3, 256, 256]⟩
abbrev S3 : Shape := ⟨1, ![3]⟩
abbrev S_ : Shape := ⟨0, ![]⟩
abbrev S256x16 : Shape := ⟨2, ![256, 16]⟩
abbrev S256 : Shape := ⟨1, ![256]⟩
abbrev S1x128x256 : Shape := ⟨3, ![1, 128, 256]⟩
abbrev S1x256x256 : Shape := ⟨3, ![1, 256, 256]⟩
abbrev S1 : Shape := ⟨1, ![1]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x1, .i32⟩
  | .hbm, ⟨3, _⟩ => ⟨S2x128x256, .f32⟩
  | .hbm, ⟨4, _⟩ => ⟨S128x256, .f32⟩
  | .hbm, ⟨5, _⟩ => ⟨S256x256, .f32⟩
  | .local _ .vmem, ⟨0, _⟩ => ⟨S256x128, .f32⟩
  | .local _ .vmem, ⟨1, _⟩ => ⟨S128x16, .f32⟩
  | .local _ .vmem, ⟨2, _⟩ => ⟨S256x1, .i32⟩
  | .local _ .vmem, ⟨3, _⟩ => ⟨S2x128x256, .f32⟩
  | .local _ .vmem, ⟨4, _⟩ => ⟨S128x256, .f32⟩
  | .local _ .vmem, ⟨5, _⟩ => ⟨S256x256, .f32⟩
  | .local _ .vmem, ⟨6, _⟩ => ⟨S3x256x256, .f32⟩
  | .local _ .vmem, ⟨7, _⟩ => ⟨S3x256x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_38 : BitVec 32 := 1#32
  let v67 : BitVec 32 := Scalar.xori v2 c1_i32_38
  let c1_i32_43 : BitVec 32 := 1#32
  let v68 : BitVec 32 := Scalar.muli v67 c1_i32_43
  let v69 : BitVec 32 := Scalar.addi c0_i32_44 v68
  v69.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_65 : BitVec 32 := 3#32
  let v92 : BitVec 32 := Scalar.xori v2 c3_i32_65
  let c1_i32_70 : BitVec 32 := 1#32
  let v93 : BitVec 32 := Scalar.muli v92 c1_i32_70
  let v94 : BitVec 32 := Scalar.addi c0_i32_71 v93
  v94.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_91 : BitVec 32 := 4#32
  let v117 : BitVec 32 := Scalar.xori v2 c4_i32_91
  let c1_i32_96 : BitVec 32 := 1#32
  let v118 : BitVec 32 := Scalar.muli v117 c1_i32_96
  let v119 : BitVec 32 := Scalar.addi c0_i32_97 v118
  v119.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x16 : Shape := ⟨2, ![128, 16]⟩
abbrev S256x1 : Shape := ⟨2, ![256, 1]⟩
abbrev S16x128x256 : Shape := ⟨3, ![16, 128, 256]⟩
abbrev S128x256 : Shape := ⟨2, ![128, 256]⟩
abbrev S256x16 : Shape := ⟨2, ![256, 16]⟩
abbrev S_ : Shape := ⟨0, ![]⟩
abbrev S256 : Shape := ⟨1, ![256]⟩
abbrev S256x256 : Shape := ⟨2, ![256, 256]⟩
abbrev S1 : Shape := ⟨1, ![1]⟩
abbrev S1x1 : Shape := ⟨2, ![1, 1]⟩
abbrev S256x128x256 : Shape := ⟨3, ![256, 128, 256]⟩
abbrev S256x2 : Shape := ⟨2, ![256, 2]⟩
abbrev S2 : Shape := ⟨1, ![2]⟩
abbrev S1x2 : Shape := ⟨2, ![1, 2]⟩

abbrev nBuf : Space → Nat
  | .hbm => 58
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x1, .i32⟩
  | .hbm, ⟨3, _⟩ => ⟨S16x128x256, .f32⟩
  | .hbm, ⟨4, _⟩ => ⟨S128x256, .f32⟩
  | .hbm, ⟨5, _⟩ => ⟨S256x16, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x16, .f32⟩
  | .hbm, ⟨10, _⟩ => ⟨S256x16, .f32⟩
  | .hbm, ⟨11, _⟩ => ⟨S256x16, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x16, .f32⟩
  | .hbm, ⟨16, _⟩ => ⟨S256x16, .f32⟩
  | .hbm, ⟨17, _⟩ => ⟨S256x256, .f32⟩
  | .hbm, ⟨18, _⟩ => ⟨S256, .i32⟩
  | .hbm, ⟨19, _⟩ => ⟨S256x1, .i32⟩
  | .hbm, ⟨20, _⟩ => ⟨S1, .i32⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S1x1, .i32⟩
  | .hbm, ⟨25, _⟩ => ⟨S256x1, .i32⟩
  | .hbm, ⟨26, _⟩ => ⟨S256x1, .i1⟩
  | .hbm, ⟨27, _⟩ => ⟨S256x1, .i1⟩
  | .hbm, ⟨28, _⟩ => ⟨S_, .i1⟩
  | .hbm, ⟨29, _⟩ => ⟨S256, .i1⟩
  | .hbm, ⟨30, _⟩ => ⟨S256x128x256, .f32⟩
  | .hbm, ⟨31, _⟩ => ⟨S256x128x256, .i1⟩
  | .hbm, ⟨32, _⟩ => ⟨S_, .f32⟩
  | .hbm, ⟨33, _⟩ => ⟨S256x128x256, .f32⟩
  | .hbm, ⟨34, _⟩ => ⟨S256x128x256, .f32⟩
  | .hbm, ⟨35, _⟩ => ⟨S256, .i32⟩
  | .hbm, ⟨36, _⟩ => ⟨S256x1, .i32⟩
  | .hbm, ⟨37, _⟩ => ⟨S256x1, .i32⟩
  | .hbm, ⟨38, _⟩ => ⟨S256x2, .i32⟩
  | .hbm, ⟨39, _⟩ => ⟨S2, .i32⟩
  | .hbm, ⟨40, _⟩ => ⟨S_, .i32⟩
  | .hbm, ⟨41, _⟩ => ⟨S256x2, .i32⟩
  | .hbm, ⟨42, _⟩ => ⟨S256x2, .i1⟩
  | .hbm, ⟨43, _⟩ => ⟨S1x2, .i32⟩
  | .hbm, ⟨44, _⟩ => ⟨S256x2, .i32⟩
  | .hbm, ⟨45, _⟩ => ⟨S256x2, .i1⟩
  | .hbm, ⟨46, _⟩ => ⟨S256x2, .i1⟩
  | .hbm, ⟨47, _⟩ => ⟨S_, .i1⟩
  | .hbm, ⟨48, _⟩ => ⟨S256, .i1⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S256x1, .f32⟩
  | .hbm, ⟨54, _⟩ => ⟨S256x256, .f32⟩
  | .hbm, ⟨55, _⟩ => ⟨S256x256, .f32⟩
  | .hbm, ⟨56, _⟩ => ⟨S256x256, .f32⟩
  | .hbm, ⟨57, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.Rows.lean ====
/- The pieces of the exchange: each round's partner device, the row of each exchange buffer a round uses, and the
   semaphores the kernel waits on. Nothing here speaks of a run. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Moe

open Cert.KernelIdeal Cert.KernelIdeal.Gen
open Idealize.ShloMosaic Idealize.ShloMosaic.TcCoe
open Idealize.SL Idealize.SL.Sem

/-! ## Partners -/

/-- Device `c`'s partner of round `r`: the device whose number differs from `c`'s by the bits 1, 3 and 4 in turn. -/
def peer (r : Fin 3) (c : Dev nD) : Dev nD :=
  match r with
  | 0 => (![1, 0, 3, 2, 5, 4, 7, 6] : Fin 8 → Fin 8) c
  | 1 => (![3, 2, 1, 0, 7, 6, 5, 4] : Fin 8 → Fin 8) c
  | 2 => (![4, 5, 6, 7, 0, 1, 2, 3] : Fin 8 → Fin 8) c

/-- Partners are mutual. -/
theorem peer_peer (r : Fin 3) (c : Dev nD) : peer r (peer r c) = c := by revert r c; decide

/-- A round's partnership as a permutation of the devices. -/
def swap (r : Fin 3) : Dev nD ≃ Dev nD := ⟨peer r, peer r, peer_peer r, peer_peer r⟩

theorem peer_inj {r : Fin 3} {a b : Dev nD} (h : peer r a = peer r b) : a = b := (swap r).injective h

/-- The devices the kernel's three signals name. -/
theorem sig0_eq (c : Dev nD) : (⟨k0_dev1 c, k0_dev1_lt c⟩ : Dev nD) = peer 0 c := by revert c; decide +kernel
theorem sig1_eq (c : Dev nD) : (⟨k0_dev2 c, k0_dev2_lt c⟩ : Dev nD) = peer 1 c := by revert c; decide +kernel
theorem sig2_eq (c : Dev nD) : (⟨k0_dev3 c, k0_dev3_lt c⟩ : Dev nD) = peer 2 c := by revert c; decide +kernel
/-- The devices its three copies go to. -/
theorem cpy0_eq (c : Dev nD) : (⟨k0_dev4 c, k0_dev4_lt c⟩ : Dev nD) = peer 0 c := by revert c; decide +kernel
theorem cpy1_eq (c : Dev nD) : (⟨k0_dev5 c, k0_dev5_lt c⟩ : Dev nD) = peer 1 c := by revert c; decide +kernel
theorem cpy2_eq (c : Dev nD) : (⟨k0_dev6 c, k0_dev6_lt c⟩ : Dev nD) = peer 2 c := by revert c; decide +kernel

/-! ## The rows of the exchange buffers -/

/-- The buffer of rows to send and the buffer of rows received, one row a round. -/
abbrev outB : Memref sig .tc .vmem S3x256x256 .f32 := Memref.whole cc0_scratch0
abbrev inB : Memref sig .tc .vmem S3x256x256 .f32 := Memref.whole cc0_scratch1

theorem inb_row (r : Fin 3) : ∀ a, (![(r : ℕ), 0, 0] : Fin 3 → ℕ) a + S1x256x256.size a ≤ S3x256x256.size a := by
  revert r; decide

/-- The rectangle of row `r`. -/
abbrev rowBox (r : Fin 3) : Rect S3x256x256 := Rect.unit (s := S3x256x256) ![(r : ℕ), 0, 0] S1x256x256.size (inb_row r)

/-- Row `r` of a buffer, as a 256 × 256 buffer of its own. -/
abbrev row (M : Memref sig .tc .vmem S3x256x256 .f32) (r : Fin 3) : Memref sig .tc .vmem S256x256 .f32 :=
  (M.slice (rowBox r) (fun _ => rfl)).squeeze S256x256 squeezes_S1x256x256_S256x256

/-- The elements of row `r`. -/
def rowSet (r : Fin 3) : Finset S3x256x256.Idx := Finset.univ.filter fun i => (i 0).val = r.val

theorem rowBox_set (r : Fin 3) : (rowBox r).set = rowSet r := by
  ext i
  rw [Rect.mem_set_unit]
  unfold rowSet
  rw [Finset.mem_filter]
  constructor
  · intro h
    have h0 := h 0
    refine ⟨Finset.mem_univ _, ?_⟩
    have h1 : r.val ≤ (i 0).val ∧ (i 0).val < r.val + 1 := h0
    omega
  · rintro ⟨-, h⟩ a
    have e : ∀ b : Fin 3, (![(r : ℕ), 0, 0] : Fin 3 → ℕ) b ≤ (i b).val ∧ (i b).val < (![(r : ℕ), 0, 0] : Fin 3 → ℕ) b + S1x256x256.size b := by
      intro b
      fin_cases b
      · show r.val ≤ (i 0).val ∧ (i 0).val < r.val + 1
        omega
      · show 0 ≤ (i 1).val ∧ (i 1).val < 0 + 256
        have := (i 1).isLt
        have h2 : (i 1).val < 256 := this
        omega
      · show 0 ≤ (i 2).val ∧ (i 2).val < 0 + 256
        have := (i 2).isLt
        have h2 : (i 2).val < 256 := this
        omega
    exact e a

theorem outRow_set (r : Fin 3) : (row outB r).view.set = rowSet r := by
  refine (Memref.set_view_squeeze (outB.slice (rowBox r) (fun _ => rfl)) squeezes_S1x256x256_S256x256).trans ?_
  refine (View.set_slice (v := outB.view) (rowBox r)).trans ?_
  rw [rowBox_set]
  exact Finset.map_refl
theorem inRow_set (r : Fin 3) : (row inB r).view.set = rowSet r := by
  refine (Memref.set_view_squeeze (inB.slice (rowBox r) (fun _ => rfl)) squeezes_S1x256x256_S256x256).trans ?_
  refine (View.set_slice (v := inB.view) (rowBox r)).trans ?_
  rw [rowBox_set]
  exact Finset.map_refl

theorem rowSet_disjoint (r r' : Fin 3) (h : r ≠ r') : Disjoint (rowSet r) (rowSet r') := by
  rw [Finset.disjoint_left]
  intro i hi hi'
  unfold rowSet at hi hi'
  rw [Finset.mem_filter] at hi hi'
  exact h (Fin.ext (hi.2.symm.trans hi'.2))

theorem rowSet_union : Finset.univ.biUnion rowSet = Finset.univ := by
  ext i
  refine ⟨fun _ => Finset.mem_univ _, fun _ => ?_⟩
  rw [Finset.mem_biUnion]
  refine ⟨⟨(i 0).val, (i 0).isLt⟩, Finset.mem_univ _, ?_⟩
  unfold rowSet
  rw [Finset.mem_filter]
  exact ⟨Finset.mem_univ _, rfl⟩

/-! ## Semaphores -/

/-- The barrier semaphore. -/
abbrev barS : Sem sig := (SemArray.scalar (sig.barrier 0 rfl) : Sems sig S_).sem

theorem inb_sem (r : Fin 3) : ∀ a, (![(r : ℕ)] : Fin 1 → ℕ) a + S1.size a ≤ S3.size a := by revert r; decide

/-- Entry `r` of an array of three DMA semaphores. -/
abbrev semAt (A : DmaSems sig S3) (r : Fin 3) : DmaSem sig :=
  ((A.slice (Rect.unit (s := S3) ![(r : ℕ)] S1.size (inb_sem r))).squeeze S_ squeezes_S1_S_).sem
/-- The semaphores on which round `r`'s copy out and copy in complete. -/
abbrev sndS (r : Fin 3) : DmaSem sig := semAt cc0_scratch2 r
abbrev rcvS (r : Fin 3) : DmaSem sig := semAt cc0_scratch3 r

/-- What each semaphore serves. -/
inductive Role where
  | bar | snd (r : Fin 3) | rcv (r : Fin 3) | none
deriving DecidableEq

/-- The use the kernel makes of a semaphore. -/
def role : SemLoc sig → Role
  | .reg _ => .bar
  | .dma q =>
    if q = sndS 0 then .snd 0 else if q = sndS 1 then .snd 1 else if q = sndS 2 then .snd 2
    else if q = rcvS 0 then .rcv 0 else if q = rcvS 1 then .rcv 1 else if q = rcvS 2 then .rcv 2 else .none

theorem role_snd (r : Fin 3) : role (.dma (sndS r)) = .snd r := by revert r; decide
theorem role_rcv (r : Fin 3) : role (.dma (rcvS r)) = .rcv r := by revert r; decide

/-- The seven semaphores of the exchange: the barrier, three for copies out, three for copies in. -/
abbrev sems : Fin 7 → SemLoc sig :=
  fun | 0 => .reg barS | 1 => .dma (sndS 0) | 2 => .dma (sndS 1) | 3 => .dma (sndS 2)
      | 4 => .dma (rcvS 0) | 5 => .dma (rcvS 1) | 6 => .dma (rcvS 2)
/-- The six of them that are the kernel's own. -/
abbrev osem : Fin 6 → SemLoc sig :=
  fun | 0 => .dma (sndS 0) | 1 => .dma (sndS 1) | 2 => .dma (sndS 2)
      | 3 => .dma (rcvS 0) | 4 => .dma (rcvS 1) | 5 => .dma (rcvS 2)

/-- Where the send and receive semaphores of round `r` stand among the seven. -/
def si (r : Fin 3) : Fin 7 := match r with | 0 => 1 | 1 => 2 | 2 => 3
def ri (r : Fin 3) : Fin 7 := match r with | 0 => 4 | 1 => 5 | 2 => 6
theorem sems_si (r : Fin 3) : sems (si r) = .dma (sndS r) := by fin_cases r <;> rfl
theorem sems_ri (r : Fin 3) : sems (ri r) = .dma (rcvS r) := by fin_cases r <;> rfl

theorem sems_inj : Function.Injective sems := by
  intro a b h
  revert a b
  decide

/-- A semaphore of a device. -/
abbrev barC (c : Dev nD) : GSem nD τ sig := ((c : Thread nD τ), .reg barS)
abbrev sndC (r : Fin 3) (c : Dev nD) : GSem nD τ sig := ((c : Thread nD τ), .dma (sndS r))
abbrev rcvC (r : Fin 3) (c : Dev nD) : GSem nD τ sig := ((c : Thread nD τ), .dma (rcvS r))
abbrev cellAt (ck : Dev nD × Fin 7) : GSem nD τ sig := ((ck.1 : Thread nD τ), sems ck.2)

theorem cellAt_si (c : Dev nD) (r : Fin 3) : cellAt (c, si r) = sndC r c := congrArg (Prod.mk _) (sems_si r)
theorem cellAt_ri (c : Dev nD) (r : Fin 3) : cellAt (c, ri r) = rcvC r c := congrArg (Prod.mk _) (sems_ri r)

theorem cellAt_inj : Function.Injective cellAt := by
  rintro ⟨c, k⟩ ⟨c', k'⟩ h
  have h1 : c = c' := congrArg (fun g : GSem nD τ sig => g.1.1) h
  have h2 : sems k = sems k' := congrArg Prod.snd h
  rw [h1, sems_inj h2]

theorem barC_inj {a b : Dev nD} (h : barC a = barC b) : a = b := congrArg (fun g : GSem nD τ sig => g.1.1) h
theorem rcvC_inj {r r' : Fin 3} {a b : Dev nD} (h : rcvC r a = rcvC r' b) : r = r' ∧ a = b := by
  refine ⟨?_, congrArg (fun g : GSem nD τ sig => g.1.1) h⟩
  have h2 : role (rcvC r a).2 = role (rcvC r' b).2 := by rw [h]
  rw [role_rcv, role_rcv] at h2
  exact Role.rcv.inj h2
theorem rcvC_ne_barC (r : Fin 3) (a b : Dev nD) : rcvC r a ≠ barC b := fun h => by
  have h2 : role (rcvC r a).2 = role (barC b).2 := by rw [h]
  rw [role_rcv] at h2
  cases h2

/-- What a copy of one row adds to the semaphores it completes on. -/
abbrev rowN : ℕ := (row inB 0).view.dmaCredit
theorem rowN_pos : 0 < rowN := View.dmaCredit_pos _ (by decide)
theorem rowN_in (r : Fin 3) : (row inB r).view.dmaCredit = rowN := rfl
theorem rowN_out (r : Fin 3) : (row outB r).view.dmaCredit = rowN := rfl

end Cert.Moe

end
-- ==== Proof.Protocol.lean ====
/- The exchange as a protocol: what each semaphore's round pays, to whom, and the contents each payment hands over.

   A device's barrier semaphore receives one unit from each of its three partners; partner `r`'s unit brings row `r` of
   that partner's receive buffer, into which the device may then copy. The receive semaphore of round `r` receives one
   copy, from partner `r`, and brings row `r` of the device's own receive buffer holding that partner's running sum.
   The send semaphore of round `r` receives the device's own copy and brings its source row back. -/
module

public import proofs.«01_k».proof.Proof.Rows
public import Idealize.ShloMosaic.Lib.Memref

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own and, beside it, the exchange's, whose payments are named by the round. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## Contents -/

/-- What the five staging buffers of device `c` hold: the tokens, the routing weights, the routing indices, the two
    experts of the device, the shared weights. -/
def xB (c : Dev nD) : (cc0_stg0_0 : Ref sig .tc).ty.Contents (Elt F) :=
  (win0_0.blk t0_0).view.read (Elt F) (m ((c : Thread nD τ).loc main_arg0))
def rB (c : Dev nD) : (cc0_stg1_0 : Ref sig .tc).ty.Contents (Elt F) :=
  (win0_1.blk t0_0).view.read (Elt F) (m ((c : Thread nD τ).loc main_arg1))
def iB (c : Dev nD) : (cc0_stg2_0 : Ref sig .tc).ty.Contents (Elt F) :=
  (win0_2.blk t0_0).view.read (Elt F) (m ((c : Thread nD τ).loc main_arg2))
def eB (c : Dev nD) : (cc0_stg3_0 : Ref sig .tc).ty.Contents (Elt F) :=
  (win0_3.blk t0_0).view.read (Elt F) (m ((c : Thread nD τ).loc main_arg3))
def sB (c : Dev nD) : (cc0_stg4_0 : Ref sig .tc).ty.Contents (Elt F) :=
  (win0_4.blk t0_0).view.read (Elt F) (m ((c : Thread nD τ).loc main_arg4))

/-- The number the kernel computes for its device. -/
abbrev myId (c : Dev nD) : BitVec 32 := Scalar.remsi (Scalar.divsi (Dev.word c) 1#32) 8#32

/-- The weights of device `c`'s first and second expert, as the kernel loads them. -/
abbrev slab0 (c : Dev nD) : Vec F S1x128x256 .f32 :=
  (Memref.whole cc0_stg3_0).view.readAt (Elt F) (Rect.unit (s := S2x128x256) ![0, 0, 0] S1x128x256.size inb_S2x128x256_S1x128x256_0_0_0).toLoadRect (eB m c)
abbrev slab1 (c : Dev nD) : Vec F S1x128x256 .f32 :=
  (Memref.whole cc0_stg3_0).view.readAt (Elt F) (Rect.unit (s := S2x128x256) ![1, 0, 0] S1x128x256.size inb_S2x128x256_S1x128x256_1_0_0).toLoadRect (eB m c)

/-- Device `c`'s own share of the routed sum: its two experts' outputs, weighted. -/
def own (c : Dev nD) : FVec F S256x256 .f32 :=
  k0_pay4 (myId c) (k0_pay1 (xB m c)) (k0_pay2 (iB m c)) (k0_pay3 (xB m c) (rB m c)) (iota .tc S256x16 32 [1] iota_S256x16_d1_w32) (slab0 m c) (slab1 m c)

/-- Device `c`'s running sum after `r` rounds: each round adds the partner's running sum. -/
def acc : ℕ → Dev nD → FVec F S256x256 .f32
  | 0, c => own m c
  | r + 1, c => addf (acc r c) (acc r (if h : r < 3 then peer ⟨r, h⟩ c else c))

theorem acc_succ (r : Fin 3) (c : Dev nD) : acc m (r.val + 1) c = addf (acc m r.val c) (acc m r.val (peer r c)) := by
  show addf (acc m r.val c) (acc m r.val (if h : r.val < 3 then peer ⟨r.val, h⟩ c else c)) = _
  rw [dif_pos r.isLt]

/-- The shared expert's output. -/
def shr (c : Dev nD) : FVec F S256x256 .f32 := k0_pay5 (k0_pay1 (xB m c)) (sB m c)

/-- The result device `c` stores. -/
def res (c : Dev nD) : (cc0_stg5_0 : Ref sig .tc).ty.Contents (Elt F) := addf (acc m 3 c) (shr m c)

/-! ## Rows held -/

/-- Row `r` of device `c`'s receive buffer, at any contents. -/
def inAny (r : Fin 3) (c : Dev nD) : sProp 𝕄 :=
  iprop(∃ f : Buf (Elt F) ((row inB r).view.loc (c : Thread nD τ)), (row inB r).view.loc (c : Thread nD τ) ↦[(row inB r).view.set]{fullShare} f)
/-- Row `r` of device `c`'s send buffer, at any contents. -/
def outAny (r : Fin 3) (c : Dev nD) : sProp 𝕄 :=
  iprop(∃ f : Buf (Elt F) ((row outB r).view.loc (c : Thread nD τ)), (row outB r).view.loc (c : Thread nD τ) ↦[(row outB r).view.set]{fullShare} f)
/-- Row `r` of device `c`'s receive buffer, holding `X`. -/
def inHas (r : Fin 3) (c : Dev nD) (X : FVec F S256x256 .f32) : sProp 𝕄 := owns (c : Thread nD τ) (row inB r) fullShare X

instance inAny_storable (r : Fin 3) (c : Dev nD) : BI.Storable (upEmb : UEmb _ 𝕄) (inAny (F := F) r c) := by unfold inAny; infer_instance
instance outAny_storable (r : Fin 3) (c : Dev nD) : BI.Storable (upEmb : UEmb _ 𝕄) (outAny (F := F) r c) := by unfold outAny; infer_instance
instance inHas_storable (r : Fin 3) (c : Dev nD) (X : FVec F S256x256 .f32) : BI.Storable (upEmb : UEmb _ 𝕄) (inHas (F := F) r c X) := by
  unfold inHas; infer_instance

/-! ## The schedule -/

/-- The payments a semaphore of a given role expects in its only round. -/
def dues : Role → Finset (Fin 3)
  | .bar => Finset.univ | .snd _ => {0} | .rcv _ => {0} | .none => ∅

/-- What payment `d` brings the owner `c` of a semaphore of a given role. -/
def brings (c : Dev nD) (d : Fin 3) : Role → sProp 𝕄
  | .bar => inAny d (peer d c)
  | .snd r => outAny r c
  | .rcv r => inHas r c (acc m r.val (peer r c))
  | .none => iprop(emp)

/-- The exchange's schedule: one round on each semaphore. -/
def plan : Rounds.Schedule (GSem nD τ sig) (Fin 3) 𝕄 where
  duties g n := if n = 0 ∧ g.1.2 = .tc then dues (role g.2) else ∅
  unitless _ := False
  amount g _ _ := if role g.2 = .bar then 1 else rowN
  payload g _ d := brings m g.1.1 d (role g.2)
  amount_pos g _ _ _ := by
    by_cases h : role g.2 = .bar
    · rw [if_pos h]; exact Nat.one_pos
    · rw [if_neg h]; exact rowN_pos

instance plan_storable (g : GSem nD τ sig) (n : ℕ) (d : Fin 3) : BI.Storable (upEmb : UEmb _ 𝕄) ((plan (F := F) m).payload g n d) := by
  show BI.Storable upEmb (brings m g.1.1 d (role g.2))
  cases role g.2 <;> (unfold brings; infer_instance)

section Plan
variable (r d : Fin 3) (c : Dev nD)

theorem duties_bar : (plan (F := F) m).duties (barC c) 0 = Finset.univ := by
  dsimp only [plan]; exact if_pos ⟨rfl, rfl⟩
theorem duties_snd : (plan (F := F) m).duties (sndC r c) 0 = {0} := by
  dsimp only [plan]; exact (if_pos ⟨rfl, rfl⟩).trans (congrArg dues (role_snd r))
theorem duties_rcv : (plan (F := F) m).duties (rcvC r c) 0 = {0} := by
  dsimp only [plan]; exact (if_pos ⟨rfl, rfl⟩).trans (congrArg dues (role_rcv r))
theorem duties_done (g : GSem nD τ sig) (n : ℕ) (h : 1 ≤ n) : (plan (F := F) m).duties g n = ∅ := if_neg fun h' => by omega

theorem amount_bar : (plan (F := F) m).amount (barC c) 0 d = 1 := by
  dsimp only [plan]; exact if_pos rfl
theorem amount_snd : (plan (F := F) m).amount (sndC r c) 0 d = rowN := if_neg (by rw [role_snd]; exact Role.noConfusion)
theorem amount_rcv : (plan (F := F) m).amount (rcvC r c) 0 d = rowN := if_neg (by rw [role_rcv]; exact Role.noConfusion)

theorem expect_bar : (plan (F := F) m).expect (barC c) 0 = 3 := by
  unfold Schedule.expect Schedule.amountOf
  rw [duties_bar, Finset.sum_congr rfl fun d _ => amount_bar m d c]
  rfl
theorem expect_snd : (plan (F := F) m).expect (sndC r c) 0 = rowN := by
  unfold Schedule.expect Schedule.amountOf
  rw [duties_snd, Finset.sum_singleton, amount_snd]
theorem expect_rcv : (plan (F := F) m).expect (rcvC r c) 0 = rowN := by
  unfold Schedule.expect Schedule.amountOf
  rw [duties_rcv, Finset.sum_singleton, amount_rcv]

theorem payload_bar : (plan (F := F) m).payload (barC c) 0 d = inAny d (peer d c) := rfl
theorem payload_snd : (plan (F := F) m).payload (sndC r c) 0 d = outAny r c := congrArg (brings m c d) (role_snd r)
theorem payload_rcv : (plan (F := F) m).payload (rcvC r c) 0 d = inHas r c (acc m r.val (peer r c)) := congrArg (brings m c d) (role_rcv r)

/-- Everything the barrier's round brings: row `r` of partner `r`, for each `r`. -/
theorem rest_bar : bigSep ((plan (F := F) m).duties (barC c) 0 \ ∅) (fun d => (plan (F := F) m).payload (barC c) 0 d)
    = iprop(inAny 0 (peer 0 c) ∗ inAny 1 (peer 1 c) ∗ inAny 2 (peer 2 c)) := by
  rw [Finset.sdiff_empty, duties_bar, bigSep_univ_eq_bigSepL [0, 1, 2] (by decide) (by decide), bigSepL_cons_cons, bigSepL_cons_cons, bigSepL_singleton]
  rfl
theorem rest_snd : bigSep ((plan (F := F) m).duties (sndC r c) 0 \ ∅) (fun d => (plan (F := F) m).payload (sndC r c) 0 d) = outAny r c := by
  rw [Finset.sdiff_empty, duties_snd, bigSep_singleton, payload_snd]
theorem rest_rcv : bigSep ((plan (F := F) m).duties (rcvC r c) 0 \ ∅) (fun d => (plan (F := F) m).payload (rcvC r c) 0 d)
    = inHas r c (acc m r.val (peer r c)) := by
  rw [Finset.sdiff_empty, duties_rcv, bigSep_singleton, payload_rcv]

end Plan

/-! ## What a device owes, and in which order it may wait -/

/-- The payments a device still has to make, counted down: three signals, then three copies. Payment `n` goes to: -/
def payee (c : Dev nD) : ℕ → GSem nD τ sig
  | 0 => rcvC 2 (peer 2 c) | 1 => rcvC 1 (peer 1 c) | 2 => rcvC 0 (peer 0 c)
  | 3 => barC (peer 2 c) | 4 => barC (peer 1 c) | _ => barC (peer 0 c)
/-- and is of this amount. -/
def fee (n : ℕ) : ℕ := if n < 3 then rowN else 1
/-- The debt with `n` payments still to make. -/
def debt (c : Dev nD) : ℕ → CellTallies nD τ sig Unit
  | 0 => 0
  | n + 1 => debt c n + tallyAt (payee c n) () (fee n)

/-- The semaphores at which waits are counted: those of the main core. -/
def waitsOf (g : GSem nD τ sig) : Finset Unit := if g.1.2 = .tc then {()} else ∅
/-- The order of waiting: staging and send semaphores first, then the barrier, then the receive semaphores by round. -/
def height : Role → ℕ
  | .bar => 1 | .snd _ => 0 | .rcv r => 2 + r.val | .none => 0
def lev (g : GSem nD τ sig) (_ : Unit) : ℕ := height (role g.2)

theorem waitsOf_off (g : GSem nD τ sig) (h : g.1.2 ≠ .tc) : waitsOf g = ∅ := if_neg h
theorem waitsOf_tc (c : Dev nD) (s : SemLoc sig) : waitsOf ((c : Thread nD τ), s) = {()} := if_pos rfl
theorem waitsOf_payee (c : Dev nD) (n : ℕ) : () ∈ waitsOf (payee c n) := by
  unfold payee
  split <;> (rw [waitsOf_tc]; exact Finset.mem_singleton_self _)

theorem lev_rcv (r : Fin 3) (c : Dev nD) : lev (rcvC r c) () = 2 + r.val := congrArg height (role_rcv r)

/-- Only semaphores of payments still to make are owed anything. -/
theorem debt_pos {c : Dev nD} {g : GSem nD τ sig} {u : Unit} : ∀ {n : ℕ}, 0 < debt c n g u → ∃ k < n, g = payee c k
  | 0, h => absurd h (Nat.lt_irrefl 0)
  | n + 1, h => by
    have h' : 0 < debt c n g u + tallyAt (payee c n) () (fee n) g u := h
    rw [tallyAt_apply] at h'
    by_cases e : g = payee c n
    · exact ⟨n, Nat.lt_succ_self n, e⟩
    · rw [if_neg (fun hh => e hh.1), Nat.add_zero] at h'
      obtain ⟨k, hk, e'⟩ := debt_pos h'
      exact ⟨k, Nat.lt_succ_of_lt hk, e'⟩

/-- A device that owes its last `n` payments may wait on a semaphore below all of theirs. -/
theorem may_wait (c : Dev nD) (s : SemLoc sig) (n : ℕ) (h : ∀ k < n, height (role s) < lev (payee c k) ()) :
    (levAts waitsOf lev : sProp 𝕄) ⊢ MayWait (c : Thread nD τ) s () (debt c n) :=
  MayOwe.of_cut (L := waitsOf) (lev := lev) (height (role s))
    (fun p hp => by rw [Finset.mem_singleton.mp hp, waitsOf_tc]; exact Finset.mem_singleton_self _)
    (fun g u hg => by obtain ⟨k, -, rfl⟩ := debt_pos hg; exact waitsOf_payee c k)
    (fun p hp => by rw [Finset.mem_singleton.mp hp]; exact Nat.le_refl _)
    (fun g u hg => by obtain ⟨k, hk, rfl⟩ := debt_pos hg; exact h k hk)

/-- The copies are owed to receive semaphores, the later round's the higher. -/
theorem lev_copy (c : Dev nD) : ∀ k < 3, lev (payee c k) () = 4 - k
  | 0, _ => lev_rcv 2 (peer 2 c) | 1, _ => lev_rcv 1 (peer 1 c) | 2, _ => lev_rcv 0 (peer 0 c)
  | k + 3, h => by omega

/-- At the barrier it owes its copies only; -/
theorem may_wait_bar (c : Dev nD) : (levAts waitsOf lev : sProp 𝕄) ⊢ MayWait (c : Thread nD τ) (.reg barS) () (debt c 3) :=
  may_wait c _ 3 fun k hk => by
    have e : height (role (.reg barS : SemLoc sig)) = 1 := rfl
    rw [e, lev_copy c k hk]; omega
/-- at the end of round `r` the copies of later rounds; -/
theorem may_wait_rcv (r : Fin 3) (c : Dev nD) : (levAts waitsOf lev : sProp 𝕄) ⊢ MayWait (c : Thread nD τ) (.dma (rcvS r)) () (debt c (2 - r.val)) :=
  may_wait c _ _ fun k hk => by
    have e : height (role (.dma (rcvS r) : SemLoc sig)) = 2 + r.val := congrArg height (role_rcv r)
    rw [e, lev_copy c k (by omega)]; omega
/-- and a staging transfer may be waited for at any time. -/
theorem may_wait_low (c : Dev nD) (s : SemLoc sig) (hs : height (role s) = 0) (n : ℕ) :
    (levAts waitsOf lev : sProp 𝕄) ⊢ MayWait (c : Thread nD τ) s () (debt c n) :=
  may_wait c _ _ fun k _ => by
    rw [hs]
    unfold payee
    split <;> first | (rw [lev_rcv]; omega) | exact Nat.one_pos

end Cert.Moe

end
-- ==== Proof.Steps.lean ====
/- The steps the kernel takes in the exchange, each proved once for any round: the signal to a partner, the storing and
   copying of a row, the waits, and the closing of the semaphores. -/
module

public import proofs.«01_k».proof.Proof.Protocol

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device knows -/

/-- The invariants of all semaphores of the exchange, and that each has reached its only round. -/
def records (K : Dev nD × Fin 7 → ℕ) : sProp 𝕄 :=
  iprop((bigSep Finset.univ fun ck : Dev nD × Fin 7 => cellInv EX (plan m) (K ck) (cellAt ck))
    ∗ bigSep Finset.univ fun ck : Dev nD × Fin 7 => reached EX (cellAt ck) 0)

instance records_persistent (K : Dev nD × Fin 7 → ℕ) : BI.Persistent (records (F := F) m K) := by unfold records; infer_instance

variable (K : Dev nD × Fin 7 → ℕ)

/-- One semaphore's record. -/
theorem record (ck : Dev nD × Fin 7) (g : GSem nD τ sig) (h : cellAt ck = g) :
    (records m K : sProp 𝕄) ⊢ iprop(cellInv EX (plan m) (K ck) g ∗ reached EX g 0) := by
  subst h
  unfold records
  exact BI.sep_mono (bigSep_elim (Finset.mem_univ ck)) (bigSep_elim (Finset.mem_univ ck))

theorem record_bar (c : Dev nD) : (records m K : sProp 𝕄) ⊢ iprop(cellInv EX (plan m) (K (c, 0)) (barC c) ∗ reached EX (barC c) 0) :=
  record m K (c, 0) _ rfl
theorem record_snd (r : Fin 3) (c : Dev nD) : (records m K : sProp 𝕄) ⊢ iprop(cellInv EX (plan m) (K (c, si r)) (sndC r c) ∗ reached EX (sndC r c) 0) :=
  record m K (c, si r) _ (cellAt_si c r)
theorem record_rcv (r : Fin 3) (c : Dev nD) : (records m K : sProp 𝕄) ⊢ iprop(cellInv EX (plan m) (K (c, ri r)) (rcvC r c) ∗ reached EX (rcvC r c) 0) :=
  record m K (c, ri r) _ (cellAt_ri c r)

/-- The debt before and after the signal to partner `r`; -/
theorem debt_signal (r : Fin 3) (c : Dev nD) : debt c (6 - r.val) = debt c (5 - r.val) + tallyAt (barC (peer r c)) () 1 := by
  fin_cases r <;> rfl
/-- and before and after the copy to partner `r`. -/
theorem debt_copy (r : Fin 3) (c : Dev nD) : debt c (3 - r.val) = debt c (2 - r.val) + tallyAt (rcvC r (peer r c)) () rowN := by
  fin_cases r <;> rfl

/-! ## Loads and stores of a row -/

/-- Row `r` of device `c`'s send buffer, holding `X`. -/
def outHas (r : Fin 3) (c : Dev nD) (X : FVec F S256x256 .f32) : sProp 𝕄 := owns (c : Thread nD τ) (row outB r) fullShare X

section Steps
variable {α : Type} (r : Fin 3) (c : Dev nD)

theorem access_out : (outB.access (rowBox r)).set = (row outB r).view.set :=
  (Memref.set_view_squeeze (outB.slice (rowBox r) (fun _ => rfl)) squeezes_S1x256x256_S256x256).symm
theorem access_in : (inB.access (rowBox r)).set = (row inB r).view.set :=
  (Memref.set_view_squeeze (inB.slice (rowBox r) (fun _ => rfl)) squeezes_S1x256x256_S256x256).symm

/-- A row received is loaded as it stands; its contents no longer matter afterwards. -/
theorem wp_load_in {Q : α → sProp 𝕄} (X : FVec F S256x256 .f32) {hl : inB.view.LoadsAt (rowBox r).toLoadRect}
    {k : Vec F S1x256x256 .f32 → Prog (TpuEff nD τ sig (Elt F) Λ₀ .tc) α} :
    inHas r c X ⊢ iprop((inAny r c -∗ wp frame (wpE (defs₀ (F := F)) 𝒱₀ (c : Thread nD τ) none) Set.univ (k (shapeCast S1x256x256 X shapeCasts_S256x256_S1x256x256)) Q)
      -∗ wp frame (wpE (defs₀ (F := F)) 𝒱₀ (c : Thread nD τ) none) Set.univ (.op (.load inB (rowBox r).toLoadRect hl) k) Q) := by
  unfold inHas inAny owns
  iintro ⟨%f, %hf, H⟩ Hk
  have e : inB.view.readAt (Elt F) (rowBox r).toLoadRect f = shapeCast S1x256x256 X shapeCasts_S256x256_S1x256x256 := by
    rw [← hf, Memref.read_squeeze_slice inB (rowBox r) (fun _ => rfl) squeezes_S1x256x256_S256x256 shapeCasts_S1x256x256_S256x256 f]
    exact (shapeCast_shapeCast _ _ _).symm
  rw [← e]
  iapply (wp_load_rect 𝒱₀ (c : Thread nD τ) none Set.univ (m := inB) (r := rowBox r) (subset_of_eq (access_in r))) $$ H
  iintro H
  iapply Hk
  iexists f
  iexact H

/-- A row of the send buffer that is loaded for nothing. -/
theorem wp_load_out {Q : α → sProp 𝕄} {hl : outB.view.LoadsAt (rowBox r).toLoadRect} {p : Prog (TpuEff nD τ sig (Elt F) Λ₀ .tc) α} :
    outAny r c ⊢ iprop((outAny r c -∗ wp frame (wpE (defs₀ (F := F)) 𝒱₀ (c : Thread nD τ) none) Set.univ p Q)
      -∗ wp frame (wpE (defs₀ (F := F)) 𝒱₀ (c : Thread nD τ) none) Set.univ (.op (.load outB (rowBox r).toLoadRect hl) fun _ => p) Q) := by
  unfold outAny
  iintro ⟨%f, H⟩ Hk
  iapply (wp_load_rect 𝒱₀ (c : Thread nD τ) none Set.univ (m := outB) (r := rowBox r) (subset_of_eq (access_out r))) $$ H
  iintro H
  iapply Hk
  iexists f
  iexact H

/-- Storing a row of the send buffer. -/
theorem wp_store_out {Q : α → sProp 𝕄} (X : FVec F S256x256 .f32) {hx : (outB.access (rowBox r)).Stores Finset.univ}
    {hm : (Finset.univ : Finset (rowBox r).shape.Idx) = Finset.univ ∨ ∀ a, (rowBox r).stride a = 1}
    {k : PUnit → Prog (TpuEff nD τ sig (Elt F) Λ₀ .tc) α} :
    outAny r c ⊢ iprop((outHas r c X -∗ wp frame (wpE (defs₀ (F := F)) 𝒱₀ (c : Thread nD τ) none) Set.univ (k ⟨⟩) Q)
      -∗ wp frame (wpE (defs₀ (F := F)) 𝒱₀ (c : Thread nD τ) none) Set.univ
          (.op (.store outB (rowBox r) (shapeCast S1x256x256 X shapeCasts_S256x256_S1x256x256) Finset.univ hx hm) k) Q) := by
  unfold outAny outHas owns
  iintro ⟨%f, H⟩ Hk
  iapply (wp_store 𝒱₀ (c : Thread nD τ) none Set.univ (m := outB) (r := rowBox r) (Mk := Finset.univ)
    (by rw [View.setOn_univ]; exact subset_of_eq (access_out r))) $$ H
  iintro H
  iapply Hk
  iexists ((outB.access (rowBox r)).write (Elt F) f (shapeCast S1x256x256 X shapeCasts_S256x256_S1x256x256) Finset.univ)
  isplitr
  · ipureintro
    rw [Memref.read_squeeze_slice outB (rowBox r) (fun _ => rfl) squeezes_S1x256x256_S256x256 shapeCasts_S1x256x256_S256x256]
    refine (congrArg (fun v => shapeCast S256x256 v shapeCasts_S1x256x256_S256x256) (View.read_write_univ (v := outB.access (rowBox r)) f (shapeCast S1x256x256 X shapeCasts_S256x256_S1x256x256))).trans ?_
    exact shapeCast_shapeCast _ _ _
  iexact H

/-! ## Signals, copies, waits -/

/-- The signal to partner `r` hands it row `r` of the device's receive buffer. -/
theorem wp_give {Q : α → sProp 𝕄} (n : Dev nD) (hn : n = peer r c) (W : Waits sig Unit) {k : PUnit → Prog (TpuEff nD τ sig (Elt F) Λ₀ .tc) α} :
    iprop(records m K ∗ owes (c : Thread nD τ) (debt c (6 - r.val)) W ∗ dutyTok EX (barC (peer r c)) 0 r ∗ inAny r c)
      ⊢ iprop((owes (c : Thread nD τ) (debt c (5 - r.val)) W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS 1) k) Q) := by
  subst hn
  iintro ⟨#HR, HO, Ht, Hrow⟩ Hk
  ihave Hrec := (record_bar m K (peer r c)) $$ HR
  icases Hrec with ⟨#HI, #Hre⟩
  iapply (Rounds.wp_signal 𝒱₀ EX (plan m) (c : Thread nD τ) none (dst := (peer r c : Thread nD τ)) (κ := K (peer r c, 0)) (r := 0) (d := r)
    (by rw [duties_bar]; exact Finset.mem_univ _) (amount_bar m r (peer r c)) () (debt c (5 - r.val)) (debt_signal r c)) $$ [HO Ht Hrow]
  · isplitr; · iexact HI
    isplitl [HO]; · iexact HO
    isplitl [Ht]; · iexact Ht
    isplitl [Hrow]
    · rw [payload_bar, peer_peer]; iexact Hrow
    iexact Hre
  iexact Hk

/-- The wait at the barrier brings each partner's row. -/
theorem wp_meet {Q : α → sProp 𝕄} (W : Waits sig Unit) {k : PUnit → Prog (TpuEff nD τ sig (Elt F) Λ₀ .tc) α} :
    iprop(records m K ∗ levAts waitsOf lev ∗ cred (tallyAt (barC c) () 3) ∗ owes (c : Thread nD τ) (debt c 3) W ∗ atPos EX (barC c) 0 ∅ 0)
      ⊢ iprop(((owes (c : Thread nD τ) (debt c 3) (insert (.reg barS, ()) W) ∗ atPos EX (barC c) 1 ∅ 0
            ∗ inAny 0 (peer 0 c) ∗ inAny 1 (peer 1 c) ∗ inAny 2 (peer 2 c))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 3) k) Q) := by
  iintro ⟨#HR, #Hl, Hc, HO, Hat⟩ Hk
  ihave Hrec := (record_bar m K c) $$ HR
  icases Hrec with ⟨#HI, -⟩
  iapply (Rounds.wp_wait_rest_token 𝒱₀ EX (plan m) (c : Thread nD τ) none (κ := K (c, 0))
    (wpE_semWait_eq 𝒱₀ (c : Thread nD τ) none Set.univ) (Set.mem_univ _) () (O := debt c 3) (W := W) (R := 0) (m := 0) (T := ∅)
    (by rw [Nat.zero_add, expect_bar])) $$ [Hc HO Hat]
  · isplitr; · iexact HI
    isplitl [Hc]; · iexact Hc
    isplitl [HO]; · iexact HO
    isplitr; · iapply (may_wait_bar c); iexact Hl
    iexact Hat
  iintro ⟨HO, Hat, -, Hpay⟩
  ihave Hp := (Entails.of_eq (rest_bar m c)) $$ Hpay
  iapply Hk
  isplitl [HO]; · iexact HO
  isplitl [Hat]; · iexact Hat
  iexact Hp

/-- The copy of round `r`: the device's running sum goes into its partner's row. -/
theorem wp_copy {Q : α → sProp 𝕄} (n : Dev nD) (hn : n = peer r c) (W : Waits sig Unit)
    {hsc : (row inB r : Memref sig (Dev.tc n : Thread nD τ).2.kind .vmem S256x256 .f32).view.ref.isScScratch = false}
    {hsrc : (row outB r).view.WordExact} {hdst : (row inB r).view.WordExact}
    {hsem : DmaTarget.Typed .vmem (.dma (rcvS r)) (.remote (Dev.tc n : Thread nD τ) (row inB r) (.dma (sndS r)) hsc)}
    {k : PUnit → Prog (TpuEff nD τ sig (Elt F) Λ₀ .tc) α} :
    iprop(records m K ∗ outHas r c (acc m r.val c) ∗ inAny r (peer r c) ∗ owes (c : Thread nD τ) (debt c (3 - r.val)) W
        ∗ dutyTok EX (sndC r c) 0 0 ∗ dutyTok EX (rcvC r (peer r c)) 0 0)
      ⊢ iprop(((cred (tallyAt (sndC r c) () rowN) ∗ owes (c : Thread nD τ) (debt c (2 - r.val)) W)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (row outB r) (.remote (Dev.tc n : Thread nD τ) (row inB r) (.dma (sndS r)) hsc) (.dma (rcvS r)) hsrc hdst hsem) k) Q) := by
  subst hn
  unfold outHas owns inAny
  iintro ⟨#HR, ⟨%fs, %hfs, Hs⟩, ⟨%fd, Hd⟩, HO, Hts, Htr⟩ Hk
  ihave Hrec := (record_snd m K r c) $$ HR
  icases Hrec with ⟨#HIs, #Hrs⟩
  ihave Hrec := (record_rcv m K r (peer r c)) $$ HR
  icases Hrec with ⟨#HIr, #Hrr⟩
  iapply (Rounds.wp_send_pointsTo 𝒱₀ EX (plan m) (c : Thread nD τ) none (κ₁ := K (c, si r)) (κ₂ := K (peer r c, ri r))
    (fs := fs) (fd := fd) (q := fullShare) (r₁ := 0) (r₂ := 0) (d₁ := 0) (d₂ := 0)
    (by rw [duties_snd]; exact Finset.mem_singleton_self _) (by rw [duties_rcv]; exact Finset.mem_singleton_self _)
    () () rowN rfl (amount_snd m r 0 c) (amount_rcv m r 0 (peer r c)) (debt c (2 - r.val)) (debt_copy r c) (W := W)
    (by
      rw [payload_snd]; unfold outAny
      iintro H; iexists fs; iexact H)
    (by
      rw [payload_rcv, peer_peer]; unfold inHas owns
      iintro H; iexists _
      isplitr
      · ipureintro; exact (View.read_write_univ fd _).trans hfs
      iexact H)) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact Hrs
    isplitl [Htr]; · iexact Htr
    iexact Hrr
  iexact Hk

/-- The wait at the end of round `r` brings the partner's running sum. -/
theorem wp_take {Q : α → sProp 𝕄} (W : Waits sig Unit) {hsrc : (row outB r).view.WordExact} {hdst : (row inB r).view.WordExact}
    {k : PUnit → Prog (TpuEff nD τ sig (Elt F) Λ₀ .tc) α} :
    iprop(records m K ∗ levAts waitsOf lev ∗ cred (tallyAt (rcvC r c) () rowN) ∗ owes (c : Thread nD τ) (debt c (2 - r.val)) W ∗ atPos EX (rcvC r c) 0 ∅ 0)
      ⊢ iprop(((owes (c : Thread nD τ) (debt c (2 - r.val)) (insert (.dma (rcvS r), ()) W) ∗ atPos EX (rcvC r c) 1 ∅ 0
            ∗ inHas r c (acc m r.val (peer r c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (rcvS r) (row outB r) (row inB r) hsrc hdst) k) Q) := by
  iintro ⟨#HR, #Hl, Hc, HO, Hat⟩ Hk
  ihave Hrec := (record_rcv m K r c) $$ HR
  icases Hrec with ⟨#HI, -⟩
  iapply (Rounds.wp_wait_rest_token 𝒱₀ EX (plan m) (c : Thread nD τ) none (κ := K (c, ri r))
    (wpE_waitDma2_eq 𝒱₀ (c : Thread nD τ) none Set.univ) (Set.mem_univ _) () (O := debt c (2 - r.val)) (W := W) (R := 0) (m := 0) (T := ∅)
    (by rw [Nat.zero_add, expect_rcv])) $$ [Hc HO Hat]
  · isplitr; · iexact HI
    isplitl [Hc]; · iexact Hc
    isplitl [HO]; · iexact HO
    isplitr; · iapply (may_wait_rcv r c); iexact Hl
    iexact Hat
  iintro ⟨HO, Hat, -, Hpay⟩
  ihave Hp := (Entails.of_eq (rest_rcv m r c)) $$ Hpay
  iapply Hk
  isplitl [HO]; · iexact HO
  isplitl [Hat]; · iexact Hat
  iexact Hp

/-- The wait for the device's own copy of round `r` brings its source row back. -/
theorem wp_back {Q : α → sProp 𝕄} (W : Waits sig Unit) {hsrc : (row inB r).view.WordExact} {hdst : (row outB r).view.WordExact}
    {k : PUnit → Prog (TpuEff nD τ sig (Elt F) Λ₀ .tc) α} :
    iprop(records m K ∗ cred (tallyAt (sndC r c) () rowN) ∗ owes (c : Thread nD τ) 0 W ∗ atPos EX (sndC r c) 0 ∅ 0)
      ⊢ iprop(((owes (c : Thread nD τ) 0 (insert (.dma (sndS r), ()) W) ∗ atPos EX (sndC r c) 1 ∅ 0 ∗ outAny r c)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sndS r) (row inB r) (row outB r) hsrc hdst) k) Q) := by
  iintro ⟨#HR, Hc, HO, Hat⟩ Hk
  ihave Hrec := (record_snd m K r c) $$ HR
  icases Hrec with ⟨#HI, -⟩
  iapply (Rounds.wp_wait_rest_token 𝒱₀ EX (plan m) (c : Thread nD τ) none (κ := K (c, si r))
    (wpE_waitDma2_eq 𝒱₀ (c : Thread nD τ) none Set.univ) (Set.mem_univ _) () (O := 0) (W := W) (R := 0) (m := 0) (T := ∅)
    (by rw [Nat.zero_add, expect_snd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_snd m r c)) $$ Hpay
  iapply Hk
  isplitl [HO]; · iexact HO
  isplitl [Hat]; · iexact Hat
  iexact Hp

/-- A round from its store to its load: the running sum out, the partner's running sum in. -/
theorem wp_round {Q : α → sProp 𝕄} (n : Dev nD) (hn : n = peer r c) (W : Waits sig Unit)
    {hx : (outB.access (rowBox r)).Stores Finset.univ}
    {hm : (Finset.univ : Finset (rowBox r).shape.Idx) = Finset.univ ∨ ∀ a, (rowBox r).stride a = 1}
    {hsc : (row inB r : Memref sig (Dev.tc n : Thread nD τ).2.kind .vmem S256x256 .f32).view.ref.isScScratch = false}
    {hsrc hsrc' : (row outB r).view.WordExact} {hdst hdst' : (row inB r).view.WordExact}
    {hsem : DmaTarget.Typed .vmem (.dma (rcvS r)) (.remote (Dev.tc n : Thread nD τ) (row inB r) (.dma (sndS r)) hsc)}
    {hl : inB.view.LoadsAt (rowBox r).toLoadRect}
    {k : Vec F S1x256x256 .f32 → Prog (TpuEff nD τ sig (Elt F) Λ₀ .tc) α} :
    iprop(records m K ∗ levAts waitsOf lev ∗ outAny r c ∗ inAny r (peer r c) ∗ owes (c : Thread nD τ) (debt c (3 - r.val)) W
        ∗ dutyTok EX (sndC r c) 0 0 ∗ dutyTok EX (rcvC r (peer r c)) 0 0 ∗ cred (tallyAt (rcvC r c) () rowN) ∗ atPos EX (rcvC r c) 0 ∅ 0)
      ⊢ iprop(((owes (c : Thread nD τ) (debt c (2 - r.val)) (insert (.dma (rcvS r), ()) W) ∗ cred (tallyAt (sndC r c) () rowN)
            ∗ atPos EX (rcvC r c) 1 ∅ 0 ∗ inAny r c)
          -∗ wp frame (wpE (defs₀ (F := F)) 𝒱₀ (c : Thread nD τ) none) Set.univ (k (shapeCast S1x256x256 (acc m r.val (peer r c)) shapeCasts_S256x256_S1x256x256)) Q)
        -∗ wp frame (wpE (defs₀ (F := F)) 𝒱₀ (c : Thread nD τ) none) Set.univ
          (.op (.store outB (rowBox r) (shapeCast S1x256x256 (acc m r.val c) shapeCasts_S256x256_S1x256x256) Finset.univ hx hm) fun _ =>
            .op (.enqueueDma (row outB r) (.remote (Dev.tc n : Thread nD τ) (row inB r) (.dma (sndS r)) hsc) (.dma (rcvS r)) hsrc hdst hsem) fun _ =>
            .op (.waitDma2 (rcvS r) (row outB r) (row inB r) hsrc' hdst') fun _ =>
            .op (.load inB (rowBox r).toLoadRect hl) k) Q) := by
  iintro ⟨#HR, #Hl, Ho, Hi, HO, Hts, Htr, Hc, Hat⟩ Hk
  iapply (wp_store_out r c (acc m r.val c)) $$ Ho
  iintro Ho
  iapply (wp_copy m K r c n hn W) $$ [Ho Hi HO Hts Htr]
  · isplitr; · iexact HR
    isplitl [Ho]; · iexact Ho
    isplitl [Hi]; · iexact Hi
    isplitl [HO]; · iexact HO
    isplitl [Hts] <;> iassumption
  iintro ⟨Hcs, HO⟩
  iapply (wp_take m K r c W) $$ [Hc HO Hat]
  · isplitr; · iexact HR
    isplitr; · iexact Hl
    isplitl [Hc]; · iexact Hc
    isplitl [HO] <;> iassumption
  iintro ⟨HO, Hat, Hi⟩
  iapply (wp_load_in r c (acc m r.val (peer r c))) $$ Hi
  iintro Hi
  iapply Hk
  isplitl [HO]; · iexact HO
  isplitl [Hcs]; · iexact Hcs
  isplitl [Hat] <;> iassumption

end Steps

/-- When every round is over the seven semaphores of a device close, and read zero. -/
theorem close_all (c : Dev nD) :
    iprop(records m K ∗ bigSep Finset.univ fun k : Fin 7 => atPos EX (cellAt (c, k)) 1 ∅ 0)
      ⊢ (|={Set.univ}=> bigSep Finset.univ fun k : Fin 7 => semVal (cellAt (c, k)) 0 : sProp 𝕄) := by
  refine (sep_mono_left (BI.bigSep_of_persistent (Finset.univ : Finset (Fin 7)) (records (F := F) m K))).trans ?_
  rw [← bigSep_sep']
  refine (bigSep_mono fun k _ => ?_).trans (bigSep_fupd _ _)
  show iprop(records m K ∗ atPos EX (cellAt (c, k)) 1 ∅ 0) ⊢ (|={Set.univ}=> semVal (cellAt (c, k)) 0 : sProp 𝕄)
  iintro ⟨#HR, Hat⟩
  ihave Hrec := (record m K (c, k) _ rfl) $$ HR
  icases Hrec with ⟨#HI, -⟩
  iapply (Rounds.cell_close EX (plan m) (Set.mem_univ (K (c, k))) (fun h => h) (R := 1) (duties_done m (cellAt (c, k)))) $$ [Hat]
  isplitr
  · iexact HI
  · iexact Hat

end Cert.Moe

end
-- ==== Proof.Body.lean ====
/- The kernel's body on one device: from its rows, tokens and staged operands to the result staged and every semaphore
   closed. -/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem over3 (Φ : Fin 3 → sProp 𝕄) : bigSep Finset.univ Φ = iprop(Φ 0 ∗ Φ 1 ∗ Φ 2) :=
  bigSep_univ_eq_bigSepL [0, 1, 2] (by decide) (by decide) Φ
theorem over7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## What a device starts and ends with -/

/-- The tokens of the payments device `c` makes: to each partner's barrier, to each partner's receive semaphore, and to
    its own send semaphores. -/
def fees (c : Dev nD) : sProp 𝕄 :=
  iprop((bigSep Finset.univ fun r : Fin 3 => dutyTok EX (barC (peer r c)) 0 r)
    ∗ (bigSep Finset.univ fun r : Fin 3 => dutyTok EX (rcvC r (peer r c)) 0 0)
    ∗ bigSep Finset.univ fun r : Fin 3 => dutyTok EX (sndC r c) 0 0)

/-- What only device `c` holds: its position at each of its semaphores, and those tokens. -/
def private_ (c : Dev nD) : sProp 𝕄 :=
  iprop((bigSep Finset.univ fun k : Fin 7 => atPos EX (cellAt (c, k)) 0 ∅ 0) ∗ fees c)

/-- The credits of the payments device `c` is to receive. -/
def dueTo (c : Dev nD) : sProp 𝕄 :=
  iprop(cred (tallyAt (barC c) () 3) ∗ bigSep Finset.univ fun r : Fin 3 => cred (tallyAt (rcvC r c) () rowN))

def start (c : Dev nD) : sProp 𝕄 :=
  iprop((∃ K, records m K ∗ private_ c) ∗ dueTo c ∗ levAts waitsOf lev)

/-- Its six rows, at any contents. -/
def rows (c : Dev nD) : sProp 𝕄 :=
  iprop((bigSep Finset.univ fun r : Fin 3 => outAny r c) ∗ bigSep Finset.univ fun r : Fin 3 => inAny r c)

def before (c : Dev nD) : sProp 𝕄 := iprop(start m c ∗ rows c)
def after (c : Dev nD) : sProp 𝕄 := iprop(rows (F := F) c ∗ bigSep Finset.univ fun k : Fin 7 => semVal (cellAt (c, k)) 0)

def dats (_ : Fin 1) (c : Dev nD) : Dat τ (Elt F) Unit ℕ UU ℕ cfg0 c where
  A w := m ((cfg0.win w).arr.view.loc (c : Thread nD τ))
  after w _ := match w with
    | ⟨0, _⟩ => xB m c
    | ⟨1, _⟩ => rB m c
    | ⟨2, _⟩ => iB m c
    | ⟨3, _⟩ => eB m c
    | ⟨4, _⟩ => sB m c
    | ⟨5, _⟩ => res m c
  Φ t := match t with
    | ⟨0, _⟩ => before m c
    | ⟨_ + 1, _⟩ => after c
  q _ := fullShare
  owed t := match t with
    | ⟨0, _⟩ => debt c 6
    | ⟨_ + 1, _⟩ => 0

/-- A whole buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-- The buffers and debt at the body's start, -/
def bodyPre (c : Dev nD) : sProp 𝕄 :=
  iprop(before m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
/-- and at its end. -/
def bodyPost (c : Dev nD) : sProp 𝕄 :=
  iprop(after c ∗ (dats m 0 c).owesAt () t0_0.succ
    ∗ stg c cc0_stg0_0 (xB m c) ∗ stg c cc0_stg1_0 (rB m c) ∗ stg c cc0_stg2_0 (iB m c)
    ∗ stg c cc0_stg3_0 (eB m c) ∗ stg c cc0_stg4_0 (sB m c) ∗ stg c cc0_stg5_0 (res m c))

/-! ## The sums the body forms -/

section Sums
variable (a b : FVec F S256x256 .f32)

theorem add_row (h : S256x256.ShapeCasts S1x256x256) : k0_pay7 a (shapeCast S1x256x256 b h) = addf a b :=
  congrArg (addf a) (shapeCast_shapeCast b h shapeCasts_S1x256x256_S256x256)
theorem add_row' (h : S256x256.ShapeCasts S1x256x256) : k0_pay9 a (shapeCast S1x256x256 b h) = addf a b :=
  congrArg (addf a) (shapeCast_shapeCast b h shapeCasts_S1x256x256_S256x256)
theorem cast_add_row (h : S256x256.ShapeCasts S1x256x256) :
    k0_pay8 a (shapeCast S1x256x256 b h) = shapeCast S1x256x256 (addf a b) shapeCasts_S256x256_S1x256x256 :=
  congrArg (fun v => shapeCast S1x256x256 v shapeCasts_S256x256_S1x256x256) (add_row a b h)
theorem cast_add_row' (h : S256x256.ShapeCasts S1x256x256) :
    k0_pay10 a (shapeCast S1x256x256 b h) = shapeCast S1x256x256 (addf a b) shapeCasts_S256x256_S1x256x256 :=
  congrArg (fun v => shapeCast S1x256x256 v shapeCasts_S256x256_S1x256x256) (add_row' a b h)
theorem add_last (s : FVec F S256x256 .f32) (h : S256x256.ShapeCasts S1x256x256) :
    k0_pay11 s a (shapeCast S1x256x256 b h) = addf (addf a b) s :=
  congrArg (fun v => addf (addf a v) s) (shapeCast_shapeCast b h shapeCasts_S1x256x256_S256x256)
end Sums

theorem acc_one (c : Dev nD) : addf (acc m 0 c) (acc m 0 (peer 0 c)) = acc m 1 c := (acc_succ m 0 c).symm
theorem acc_two (c : Dev nD) : addf (acc m 1 c) (acc m 1 (peer 1 c)) = acc m 2 c := (acc_succ m 1 c).symm
theorem acc_three (c : Dev nD) : addf (acc m 2 c) (acc m 2 (peer 2 c)) = acc m 3 c := (acc_succ m 2 c).symm

theorem origin2 : (![0, 0] : Fin 2 → Nat) = fun _ => 0 := funext fun a => by fin_cases a <;> rfl

section Whole
variable {α : Type} (c : Dev nD) {cs : CoreSpace} {i : Fin (sig.nNear .tc cs)} {hκ : sig.names .tc cs i = true}
  {off : Fin (sig.tyNear .tc cs i).shape.rank → Nat}
  {inb : ∀ a, off a + (sig.tyNear .tc cs i).shape.size a ≤ (sig.tyNear .tc cs i).shape.size a}

/-- A load of all of a buffer gives what it holds, -/
theorem wp_load_all {Q : α → sProp 𝕄} (h : off = fun _ => 0) (X : (sig.tyNear .tc cs i).Contents (Elt F))
    {hl : (Memref.whole ⟨cs, i, hκ⟩ : Memref sig .tc _ _ _).view.LoadsAt (Rect.unit off (sig.tyNear .tc cs i).shape.size inb).toLoadRect}
    {k : (sig.tyNear .tc cs i).Contents (Elt F) → Prog (TpuEff nD τ sig (Elt F) Λ₀ .tc) α} :
    (((c : Thread nD τ).loc ⟨cs, i, hκ⟩) ↦{fullShare} X)
      ⊢ iprop(((((c : Thread nD τ).loc ⟨cs, i, hκ⟩) ↦{fullShare} X) -∗ wp frame (wpE (defs₀ (F := F)) 𝒱₀ (c : Thread nD τ) none) Set.univ (k X) Q)
        -∗ wp frame (wpE (defs₀ (F := F)) 𝒱₀ (c : Thread nD τ) none) Set.univ
            (.op (.load (Memref.whole ⟨cs, i, hκ⟩) (Rect.unit off (sig.tyNear .tc cs i).shape.size inb).toLoadRect hl) k) Q) := by
  iintro H Hk
  iapply (wp_load 𝒱₀ (c : Thread nD τ) none Set.univ (m := Memref.whole ⟨cs, i, hκ⟩) (Finset.subset_univ _)) $$ H
  iintro H
  rw [Memref.readAt_unit_zero (Elt F) ⟨cs, i, hκ⟩ h inb X]
  iapply Hk
  iexact H

/-- and a store of all of it leaves what was stored. -/
theorem wp_store_all {Q : α → sProp 𝕄} (h : off = fun _ => 0) (X w : (sig.tyNear .tc cs i).Contents (Elt F))
    {hx : ((Memref.whole ⟨cs, i, hκ⟩).access (Rect.unit off (sig.tyNear .tc cs i).shape.size inb) : View sig .tc _ _ _).Stores Finset.univ}
    {hm : (Finset.univ : Finset (Rect.unit off (sig.tyNear .tc cs i).shape.size inb).shape.Idx) = Finset.univ ∨ ∀ a, (Rect.unit off (sig.tyNear .tc cs i).shape.size inb).stride a = 1}
    {k : PUnit → Prog (TpuEff nD τ sig (Elt F) Λ₀ .tc) α} :
    (((c : Thread nD τ).loc ⟨cs, i, hκ⟩) ↦{fullShare} X)
      ⊢ iprop(((((c : Thread nD τ).loc ⟨cs, i, hκ⟩) ↦{fullShare} w) -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole ⟨cs, i, hκ⟩) (Rect.unit off (sig.tyNear .tc cs i).shape.size inb) w Finset.univ hx hm) k) Q) := by
  iintro H Hk
  iapply (wp_store 𝒱₀ (c : Thread nD τ) none Set.univ (m := Memref.whole ⟨cs, i, hκ⟩) (r := Rect.unit off (sig.tyNear .tc cs i).shape.size inb)
    (Finset.subset_univ _)) $$ H
  iintro H
  rw [Memref.write_access_unit_zero_univ (Elt F) ⟨cs, i, hκ⟩ h inb X w]
  iapply Hk
  iexact H

end Whole

/-! ## The body -/

set_option maxHeartbeats 1600000 in
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre before start private_ fees dueTo rows
  simp only [over3, over7]
  iintro ⟨⟨⟨⟨⟨%K, #HR, ⟨⟨HaB, HaS0, HaS1, HaS2, HaR0, HaR1, HaR2⟩, ⟨HtB0, HtB1, HtB2⟩, ⟨HtR0, HtR1, HtR2⟩, HtS0, HtS1, HtS2⟩⟩,
      ⟨HcB, HcR0, HcR1, HcR2⟩, #Hl⟩, ⟨Ho0, Ho1, Ho2⟩, Hi0, Hi1, Hi2⟩, HO,
      ⟨%d0, %g0, %hg0, Hx⟩, ⟨%d1, %g1, %hg1, Hr⟩, ⟨%d2, %g2, %hg2, Hidx⟩, ⟨%d3, %g3, %hg3, He⟩, ⟨%d4, %g4, %hg4, Hs⟩, ⟨%d5, %g5, %hg5, Hout⟩⟩, Hk⟩
  have e0 : g0 = xB m c := by rw [hg0]; unfold Dat.before; rw [if_pos (fetch0_0 t0_0)]; rfl
  have e1 : g1 = rB m c := by rw [hg1]; unfold Dat.before; rw [if_pos (fetch0_1 t0_0)]; rfl
  have e2 : g2 = iB m c := by rw [hg2]; unfold Dat.before; rw [if_pos (fetch0_2 t0_0)]; rfl
  have e3 : g3 = eB m c := by rw [hg3]; unfold Dat.before; rw [if_pos (fetch0_3 t0_0)]; rfl
  have e4 : g4 = sB m c := by rw [hg4]; unfold Dat.before; rw [if_pos (fetch0_4 t0_0)]; rfl
  subst e0 e1 e2 e3 e4
  unfold Dat.owesAt Pipeline.owesWithin
  icases HO with ⟨%W, %hW, HO⟩
  rw [show (dats m 0 c).owed t0_0.castSucc = debt c 6 from rfl]
  -- a signal to each partner, with the row it may fill
  iapply (wp_give m K 0 c _ (sig0_eq c) W) $$ [HO HtB0 Hi0]
  · isplitr; · iexact HR
    isplitl [HO]; · iexact HO
    isplitl [HtB0] <;> iassumption
  iintro HO
  iapply (wp_give m K 1 c _ (sig1_eq c) W) $$ [HO HtB1 Hi1]
  · isplitr; · iexact HR
    isplitl [HO]; · iexact HO
    isplitl [HtB1] <;> iassumption
  iintro HO
  iapply (wp_give m K 2 c _ (sig2_eq c) W) $$ [HO HtB2 Hi2]
  · isplitr; · iexact HR
    isplitl [HO]; · iexact HO
    isplitl [HtB2] <;> iassumption
  iintro HO
  -- the partners' rows
  iapply (wp_meet m K c W) $$ [HcB HO HaB]
  · isplitr; · iexact HR
    isplitr; · iexact Hl
    isplitl [HcB]; · iexact HcB
    isplitl [HO]; · iexact HO
    iexact HaB
  iintro ⟨HO, HaB, Hi0, Hi1, Hi2⟩
  -- the operands
  iapply (wp_load_all c origin2 (xB m c)) $$ Hx; iintro Hx
  iapply (wp_load_all c origin2 (iB m c)) $$ Hidx; iintro Hidx
  iapply (wp_load_all c origin2 (rB m c)) $$ Hr; iintro Hr
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg3_0) (Finset.subset_univ _)) $$ He; iintro He
  iapply (wp_load_all c origin2 (sB m c)) $$ Hs; iintro Hs
  -- the three rounds
  iapply (wp_load_out 0 c) $$ Ho0; iintro Ho0
  iapply (wp_round m K 0 c _ (cpy0_eq c) (insert (.reg barS, ()) W)) $$ [Ho0 Hi0 HO HtS0 HtR0 HcR0 HaR0]
  · isplitr; · iexact HR
    isplitr; · iexact Hl
    isplitl [Ho0]; · iexact Ho0
    isplitl [Hi0]; · iexact Hi0
    isplitl [HO]; · iexact HO
    isplitl [HtS0]; · iexact HtS0
    isplitl [HtR0]; · iexact HtR0
    isplitl [HcR0] <;> iassumption
  iintro ⟨HO, HcS0, HaR0, Hi0⟩
  have s1 : addf (own m c) (acc m (0 : Fin 3).val (peer 0 c)) = acc m (1 : Fin 3).val c := acc_one m c
  have s2 : addf (acc m (1 : Fin 3).val c) (acc m (1 : Fin 3).val (peer 1 c)) = acc m (2 : Fin 3).val c := acc_two m c
  have s3 : addf (acc m (2 : Fin 3).val c) (acc m (2 : Fin 3).val (peer 2 c)) = acc m 3 c := acc_three m c
  rw [show k0_pay4 (myId c) (k0_pay1 (xB m c)) (k0_pay2 (iB m c)) (k0_pay3 (xB m c) (rB m c)) (iota .tc S256x16 32 [1] iota_S256x16_d1_w32) (slab0 m c) (slab1 m c)
    = own m c from rfl]
  rw [add_row (own m c) (acc m (0 : Fin 3).val (peer 0 c)) shapeCasts_S256x256_S1x256x256,
    cast_add_row (own m c) (acc m (0 : Fin 3).val (peer 0 c)) shapeCasts_S256x256_S1x256x256, s1]
  iapply (wp_load_out 1 c) $$ Ho1; iintro Ho1
  iapply (wp_round m K 1 c _ (cpy1_eq c) (insert (.dma (rcvS 0), ()) (insert (.reg barS, ()) W))) $$ [Ho1 Hi1 HO HtS1 HtR1 HcR1 HaR1]
  · isplitr; · iexact HR
    isplitr; · iexact Hl
    isplitl [Ho1]; · iexact Ho1
    isplitl [Hi1]; · iexact Hi1
    isplitl [HO]; · iexact HO
    isplitl [HtS1]; · iexact HtS1
    isplitl [HtR1]; · iexact HtR1
    isplitl [HcR1] <;> iassumption
  iintro ⟨HO, HcS1, HaR1, Hi1⟩
  rw [add_row' (acc m (1 : Fin 3).val c) (acc m (1 : Fin 3).val (peer 1 c)) shapeCasts_S256x256_S1x256x256,
    cast_add_row' (acc m (1 : Fin 3).val c) (acc m (1 : Fin 3).val (peer 1 c)) shapeCasts_S256x256_S1x256x256, s2]
  iapply (wp_load_out 2 c) $$ Ho2; iintro Ho2
  iapply (wp_round m K 2 c _ (cpy2_eq c) (insert (.dma (rcvS 1), ()) (insert (.dma (rcvS 0), ()) (insert (.reg barS, ()) W)))) $$ [Ho2 Hi2 HO HtS2 HtR2 HcR2 HaR2]
  · isplitr; · iexact HR
    isplitr; · iexact Hl
    isplitl [Ho2]; · iexact Ho2
    isplitl [Hi2]; · iexact Hi2
    isplitl [HO]; · iexact HO
    isplitl [HtS2]; · iexact HtS2
    isplitl [HtR2]; · iexact HtR2
    isplitl [HcR2] <;> iassumption
  iintro ⟨HO, HcS2, HaR2, Hi2⟩
  rw [show k0_pay5 (k0_pay1 (xB m c)) (sB m c) = shr m c from rfl, add_last (acc m (2 : Fin 3).val c) (acc m (2 : Fin 3).val (peer 2 c)) (shr m c) shapeCasts_S256x256_S1x256x256, s3,
    show addf (acc m 3 c) (shr m c) = res m c from rfl]
  -- the result
  iapply (wp_load_all c origin2 g5) $$ Hout; iintro Hout
  iapply (wp_store_all c origin2 g5 (res m c)) $$ Hout; iintro Hout
  -- the rows sent come back
  iapply (wp_back m K 0 c (insert (.dma (rcvS 2), ()) (insert (.dma (rcvS 1), ()) (insert (.dma (rcvS 0), ()) (insert (.reg barS, ()) W))))) $$ [HcS0 HO HaS0]
  · isplitr; · iexact HR
    isplitl [HcS0]; · iexact HcS0
    isplitl [HO]; · iexact HO
    iexact HaS0
  iintro ⟨HO, HaS0, Ho0⟩
  iapply (wp_back m K 1 c (insert (.dma (sndS 0), ()) (insert (.dma (rcvS 2), ()) (insert (.dma (rcvS 1), ()) (insert (.dma (rcvS 0), ()) (insert (.reg barS, ()) W)))))) $$ [HcS1 HO HaS1]
  · isplitr; · iexact HR
    isplitl [HcS1]; · iexact HcS1
    isplitl [HO]; · iexact HO
    iexact HaS1
  iintro ⟨HO, HaS1, Ho1⟩
  iapply (wp_back m K 2 c (insert (.dma (sndS 1), ()) (insert (.dma (sndS 0), ()) (insert (.dma (rcvS 2), ()) (insert (.dma (rcvS 1), ()) (insert (.dma (rcvS 0), ()) (insert (.reg barS, ()) W))))))) $$ [HcS2 HO HaS2]
  · isplitr; · iexact HR
    isplitl [HcS2]; · iexact HcS2
    isplitl [HO]; · iexact HO
    iexact HaS2
  iintro ⟨HO, HaS2, Ho2⟩
  -- and every semaphore closes
  imod (close_all m K c) $$ [HaB HaS0 HaS1 HaS2 HaR0 HaR1 HaR2] with Hz
  · isplitr; · iexact HR
    rw [over7]
    isplitl [HaB]; · iexact HaB
    isplitl [HaS0]; · iexact HaS0
    isplitl [HaS1]; · iexact HaS1
    isplitl [HaS2]; · iexact HaS2
    isplitl [HaR0]; · iexact HaR0
    isplitl [HaR1] <;> iassumption
  rw [wp_ret]
  imodintro
  iapply Hk
  unfold bodyPost after rows
  simp only [over3]
  isplitl [Ho0 Ho1 Ho2 Hi0 Hi1 Hi2 Hz]
  · isplitl [Ho0 Ho1 Ho2 Hi0 Hi1 Hi2]
    · isplitl [Ho0 Ho1 Ho2]
      · isplitl [Ho0]; · iexact Ho0
        isplitl [Ho1] <;> iassumption
      · isplitl [Hi0]; · iexact Hi0
        isplitl [Hi1] <;> iassumption
    · iexact Hz
  isplitl [HO]
  · unfold Dat.owesAt Pipeline.owesWithin
    iexists (insert (.dma (sndS 2), ()) (insert (.dma (sndS 1), ()) (insert (.dma (sndS 0), ()) (insert (.dma (rcvS 2), ()) (insert (.dma (rcvS 1), ()) (insert (.dma (rcvS 0), ()) (insert (.reg barS, ()) (W))))))))
    isplitr
    · ipureintro; exact fun _ _ => Or.inl trivial
    iexact HO
  unfold stg
  isplitl [Hx]
  · iexists _; isplitr; · ipureintro; rfl
    iexact Hx
  isplitl [Hr]
  · iexists _; isplitr; · ipureintro; rfl
    iexact Hr
  isplitl [Hidx]
  · iexists _; isplitr; · ipureintro; rfl
    iexact Hidx
  isplitl [He]
  · iexists _; isplitr; · ipureintro; rfl
    iexact He
  isplitl [Hs]
  · iexists _; isplitr; · ipureintro; rfl
    iexact Hs
  iexists _; isplitr; · ipureintro; rfl
  iexact Hout

/-- The body's contract, as the pipeline asks it. -/
theorem body_meets (c : Dev nD) :
    BodyObligation (dats m 0 c) (defs₀ (F := F)) 𝒱₀ () Set.univ := fun t => by
  rw [fin_N0 t]; rw [bigSep_W0, bigSep_W0]; simp only [owns_whole_eq]
  show bodyPre m c ⊢ wp frame (wpE (defs₀ (F := F)) 𝒱₀ c none) Set.univ _ (fun _ => bodyPost m c)
  refine BIBase.Entails.trans ?_ (sound_body m c (fun _ => bodyPost m c))
  iintro H
  isplitl [H]; · iexact H
  iintro H; iexact H

end Cert.Moe

end
-- ==== Proof.Launch.lean ====
/- The launch: the ghost state dealt to the devices, the rows of the exchange buffers, what each device is owed, and the
   run of the whole machine. -/
module

public import proofs.«01_k».proof.Proof.Body
public import Idealize.ShloMosaic.Lib.Pipeline.CollectiveSegs

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Rows -/

/-- A whole exchange buffer is its three rows, -/
theorem cut (r' : Ref sig .tc) (c : Dev nD) (S : Fin 3 → Finset (Idx ((c : Thread nD τ).loc r')))
    (hd : ∀ a b, a ≠ b → Disjoint (S a) (S b)) (hu : Finset.univ.biUnion S = Finset.univ) :
    (iprop(∃ f : Buf (Elt F) ((c : Thread nD τ).loc r'), ((c : Thread nD τ).loc r') ↦{fullShare} f) : sProp 𝕄)
      ⊢ bigSep Finset.univ fun k => iprop(∃ f : Buf (Elt F) ((c : Thread nD τ).loc r'), ((c : Thread nD τ).loc r') ↦[S k]{fullShare} f) := by
  iintro ⟨%f, H⟩
  have e : (((c : Thread nD τ).loc r') ↦{fullShare} f : sProp 𝕄) = bigSep Finset.univ fun k => ((c : Thread nD τ).loc r') ↦[S k]{fullShare} f := by
    rw [← pointsTo_biUnion Finset.univ S (fun a _ b _ h => hd a b h), hu]
  ihave H' := (Entails.of_eq e) $$ H
  have h : (bigSep Finset.univ fun k => ((c : Thread nD τ).loc r') ↦[S k]{fullShare} f : sProp 𝕄)
      ⊢ (bigSep Finset.univ fun k => iprop(∃ f : Buf (Elt F) ((c : Thread nD τ).loc r'), ((c : Thread nD τ).loc r') ↦[S k]{fullShare} f) : sProp 𝕄) := by
    refine bigSep_mono fun k _ => ?_
    show (((c : Thread nD τ).loc r') ↦[S k]{fullShare} f : sProp 𝕄)
      ⊢ iprop(∃ f : Buf (Elt F) ((c : Thread nD τ).loc r'), ((c : Thread nD τ).loc r') ↦[S k]{fullShare} f)
    iintro H; iexists f; iexact H
  iapply h $$ H'

/-- and three rows make a whole buffer. -/
theorem glue (r' : Ref sig .tc) (c : Dev nD) (S : Fin 3 → Finset (Idx ((c : Thread nD τ).loc r')))
    (hd : ∀ a b, a ≠ b → Disjoint (S a) (S b)) (hu : Finset.univ.biUnion S = Finset.univ) :
    (bigSep Finset.univ fun k => iprop(∃ f : Buf (Elt F) ((c : Thread nD τ).loc r'), ((c : Thread nD τ).loc r') ↦[S k]{fullShare} f) : sProp 𝕄)
      ⊢ iprop(∃ f : Buf (Elt F) ((c : Thread nD τ).loc r'), ((c : Thread nD τ).loc r') ↦{fullShare} f) := by
  iintro H
  ihave H := (BI.bigSep_exists_pi Finset.univ (fun (k : Fin 3) (f : Buf (Elt F) ((c : Thread nD τ).loc r')) =>
    (((c : Thread nD τ).loc r') ↦[S k]{fullShare} f : sProp 𝕄))) $$ H
  icases H with ⟨%fs, H⟩
  ihave H := (pointsTo_biUnion_join Finset.univ S fs (fs 0) (fun a _ b _ h => hd a b h)) $$ H
  rw [hu]
  icases H with ⟨%g, -, H⟩
  iexists g
  iexact H

theorem outAny_eq (r : Fin 3) (c : Dev nD) : (outAny r c : sProp 𝕄)
    = iprop(∃ f : Buf (Elt F) ((c : Thread nD τ).loc cc0_scratch0), ((c : Thread nD τ).loc cc0_scratch0) ↦[rowSet r]{fullShare} f) := by
  unfold outAny; rw [outRow_set]
theorem inAny_eq (r : Fin 3) (c : Dev nD) : (inAny r c : sProp 𝕄)
    = iprop(∃ f : Buf (Elt F) ((c : Thread nD τ).loc cc0_scratch1), ((c : Thread nD τ).loc cc0_scratch1) ↦[rowSet r]{fullShare} f) := by
  unfold inAny; rw [inRow_set]

theorem rows_intro (c : Dev nD) : (Pipeline.scopedRest cfg0.spec c : sProp 𝕄) ⊢ rows c := by
  rw [scopedRest0_eq]
  unfold rows
  simp only [outAny_eq, inAny_eq]
  exact BI.sep_mono (cut cc0_scratch0 c rowSet rowSet_disjoint rowSet_union) (cut cc0_scratch1 c rowSet rowSet_disjoint rowSet_union)
theorem rows_elim (c : Dev nD) : rows c ⊢ (Pipeline.scopedRest cfg0.spec c : sProp 𝕄) := by
  rw [scopedRest0_eq]
  unfold rows
  simp only [outAny_eq, inAny_eq]
  exact BI.sep_mono (glue cc0_scratch0 c rowSet rowSet_disjoint rowSet_union) (glue cc0_scratch1 c rowSet rowSet_disjoint rowSet_union)

/-! ## Semaphores at the launch -/

theorem ownSemFacts : Pipeline.OwnSemFacts cfg0.spec osem := by decide

/-- The kernel's own semaphores and the barrier are the seven of the exchange. -/
theorem sevenSems (c : Dev nD) :
    (bigSep Finset.univ fun k : Fin 7 => (semVal (cellAt (c, k)) 0 : sProp 𝕄))
      = iprop(unscopedSems0 c ∗ Pipeline.ownSems0 (Ix := Unit) (Name := ℕ) (U := UU) (Lvl := ℕ) (Val := Elt F) (τ := τ) osem c) := by
  rw [Pipeline.ownSems0_eq_of_list c osem [0, 1, 2, 3, 4, 5] (by decide) (by decide), over7]
  unfold unscopedSems0
  rw [bigSep_eq_bigSepL_of_eq [SemLoc.reg barS] (by decide) (by decide)]
  rfl

/-! ## The tokens -/

/-- The payments onto device `c`'s semaphores, by kind (barrier, receive, send) and round. -/
def payAt (p : Dev nD × (Fin 3 × Fin 3)) : GSem nD τ sig × ℕ × Fin 3 :=
  match p.2.1 with
  | 0 => (barC p.1, 0, p.2.2) | 1 => (rcvC p.2.2 p.1, 0, 0) | 2 => (sndC p.2.2 p.1, 0, 0)

/-- The device of a payment, its kind and its round can be read off it. -/
theorem payAt_inj : Function.Injective payAt := by
  have key : ∀ (c c' : Dev nD) (k r k' r' : Fin 3), payAt (c, k, r) = payAt (c', k', r') →
      c = c' ∧ (role (payAt (c, k, r)).1.2 = role (payAt (c', k', r')).1.2 ∧ (payAt (c, k, r)).2.2 = (payAt (c', k', r')).2.2) := by
    intro c c' k r k' r' h
    refine ⟨?_, congrArg (fun x : GSem nD τ sig × ℕ × Fin 3 => role x.1.2) h, congrArg (fun x : GSem nD τ sig × ℕ × Fin 3 => x.2.2) h⟩
    have h1 := congrArg (fun x : GSem nD τ sig × ℕ × Fin 3 => x.1.1.1) h
    fin_cases k <;> fin_cases k' <;> exact h1
  rintro ⟨c, k, r⟩ ⟨c', k', r'⟩ h
  obtain ⟨rfl, h1, h2⟩ := key c c' k r k' r' h
  have e : (k, r) = (k', r') := by
    fin_cases k <;> fin_cases k' <;> dsimp only [payAt] at h1 h2 <;>
      simp only [role_snd, role_rcv, show role (.reg barS : SemLoc sig) = .bar from rfl] at h1 <;>
      first | cases h1 | skip
    · exact congrArg _ h2
    · rfl
    · rfl
  rw [e]

/-- All semaphores of the exchange and all payments onto them. -/
def cellsX : Finset (GSem nD τ sig) := Finset.univ.map ⟨cellAt, cellAt_inj⟩
def toksX : Finset (GSem nD τ sig × ℕ × Fin 3) := Finset.univ.map ⟨payAt, payAt_inj⟩

abbrev tok (p : Dev nD × (Fin 3 × Fin 3)) : sProp 𝕄 := dutyTok EX (payAt p).1 (payAt p).2.1 (payAt p).2.2

/-- Who makes a payment: the barrier's and the receive semaphores' the partner, the send semaphores' the device itself. -/
def payer (p : Dev nD × (Fin 3 × Fin 3)) : Dev nD × (Fin 3 × Fin 3) := (if p.2.1 = 2 then p.1 else peer p.2.2 p.1, p.2)
theorem payer_payer (p : Dev nD × (Fin 3 × Fin 3)) : payer (payer p) = p := by
  obtain ⟨c, k, r⟩ := p
  unfold payer
  by_cases h : k = 2
  · simp only [h, if_true]
  · simp only [h, if_false, peer_peer]
def payers : Dev nD × (Fin 3 × Fin 3) ≃ Dev nD × (Fin 3 × Fin 3) := ⟨payer, payer, payer_payer, payer_payer⟩

/-- The tokens of all payments, dealt to those who make them. -/
theorem deal : (bigSep Finset.univ fun p => (tok p : sProp 𝕄)) = bigSep Finset.univ fun c : Dev nD => fees c := by
  rw [bigSep_univ_equiv payers, bigSep_univ_prod]
  refine bigSep_congr fun c _ => ?_
  rw [bigSep_univ_prod, over3]
  rfl

/-! ## Allocation -/

def u₀ : UU := (initOf (Pipeline.cells cfgs cellOf_inj) (Pipeline.launchToks cfgs cellOf_inj), initOf cellsX toksX)

/-- What device `c` is dealt at the launch: the state and the position of its semaphores, and the tokens of its payments; -/
def dealt (c : Dev nD) : sProp 𝕄 :=
  iprop((bigSep Finset.univ fun k : Fin 7 => roundState EX (plan m) (cellAt (c, k)) 0)
    ∗ (bigSep Finset.univ fun k : Fin 7 => atPos EX (cellAt (c, k)) 0 ∅ 0)
    ∗ (bigSep Finset.univ fun k : Fin 7 => reached EX (cellAt (c, k)) 0) ∗ fees c)
/-- and what it holds once the semaphores are under invariants. -/
def known (c : Dev nD) : sProp 𝕄 := iprop(∃ K, records m K ∗ private_ c)

theorem over_cells (Φ : GSem nD τ sig → sProp 𝕄) :
    bigSep cellsX Φ = bigSep Finset.univ fun c : Dev nD => bigSep Finset.univ fun k : Fin 7 => Φ (cellAt (c, k)) := by
  unfold cellsX; rw [bigSep_map, bigSep_univ_prod]; rfl

theorem fund : BI.own (EX (initOf cellsX toksX)) ⊢ (|==> bigSep Finset.univ (dealt m) : sProp 𝕄) := by
  have hT : bigSep toksX (fun x => (dutyTok EX x.1 x.2.1 x.2.2 : sProp 𝕄)) = bigSep Finset.univ fun c : Dev nD => fees c := by
    rw [← deal]; unfold toksX; rw [bigSep_map]; rfl
  iintro HX
  imod (Rounds.fund EX (plan m) cellsX toksX) $$ HX with ⟨Hst, Hr, Hat, Htok⟩
  imodintro
  ihave Hst := (Entails.of_eq (over_cells fun g => roundState EX (plan m) g 0)) $$ Hst
  ihave Hat := (Entails.of_eq (over_cells fun g => atPos EX g 0 ∅ 0)) $$ Hat
  ihave Hr := (Entails.of_eq (over_cells fun g => reached EX g 0)) $$ Hr
  ihave Htok := (Entails.of_eq hT) $$ Htok
  unfold dealt
  simp only [bigSep_sep']
  isplitl [Hst]; · iexact Hst
  isplitl [Hat]; · iexact Hat
  isplitl [Hr]; · iexact Hr
  iexact Htok

/-- Each semaphore, at zero, goes under the invariant of its rounds. -/
theorem put_under (c : Dev nD) :
    iprop((bigSep Finset.univ fun k : Fin 7 => semVal (cellAt (c, k)) 0) ∗ bigSep Finset.univ fun k : Fin 7 => roundState EX (plan m) (cellAt (c, k)) 0)
      ⊢ (|={Set.univ}=> bigSep Finset.univ fun k : Fin 7 => iprop(∃ κ : ℕ, cellInv EX (plan m) κ (cellAt (c, k))) : sProp 𝕄) := by
  rw [← bigSep_sep']
  exact (bigSep_mono fun k _ => (Rounds.body_intro EX (plan m) (cellAt (c, k))).trans inv_alloc).trans (bigSep_fupd _ _)

theorem alloc_one (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Fin 7 => iprop(∃ κ : ℕ, cellInv EX (plan m) κ (cellAt (c, k))))
          ∗ (bigSep Finset.univ fun k : Fin 7 => reached EX (cellAt (c, k)) 0) ∗ private_ c) := by
  unfold dealt private_
  iintro ⟨Hown, Hun, Hst, Hat, Hr, Hf⟩
  imod (put_under m c) $$ [Hown Hun Hst] with HI
  · isplitl [Hown Hun]
    · rw [sevenSems]
      isplitl [Hun] <;> iassumption
    · iexact Hst
  imodintro
  isplitl [HI]; · iexact HI
  isplitl [Hr]; · iexact Hr
  isplitl [Hat] <;> iassumption

/-- The names of all invariants gathered, and every device told of all of them. -/
theorem share_records :
    (bigSep Finset.univ fun c : Dev nD => iprop((bigSep Finset.univ fun k : Fin 7 => iprop(∃ κ : ℕ, cellInv EX (plan m) κ (cellAt (c, k))))
          ∗ (bigSep Finset.univ fun k : Fin 7 => reached EX (cellAt (c, k)) 0) ∗ private_ c) : sProp 𝕄)
      ⊢ bigSep Finset.univ (known m) := by
  rw [bigSep_sep', bigSep_sep', ← bigSep_univ_prod (fun ck : Dev nD × Fin 7 => iprop(∃ κ : ℕ, cellInv EX (plan m) κ (cellAt ck))),
    ← bigSep_univ_prod (fun ck : Dev nD × Fin 7 => (reached EX (cellAt ck) 0 : sProp 𝕄))]
  iintro ⟨HI, #Hr, Hp⟩
  ihave HI := (BI.bigSep_exists_pi Finset.univ (fun (ck : Dev nD × Fin 7) (κ : ℕ) => (cellInv EX (plan m) κ (cellAt ck) : sProp 𝕄))) $$ HI
  icases HI with ⟨%K, #HI⟩
  have h : iprop(records m K ∗ bigSep Finset.univ fun c : Dev nD => private_ c) ⊢ (bigSep Finset.univ (known m) : sProp 𝕄) := by
    refine (sep_mono_left (BI.bigSep_of_persistent (Finset.univ : Finset (Dev nD)) (records (F := F) m K))).trans ?_
    rw [← bigSep_sep']
    refine bigSep_mono fun c _ => ?_
    show iprop(records m K ∗ private_ c) ⊢ (known m c : sProp 𝕄)
    unfold known
    iintro H
    iexists K
    iexact H
  iapply h
  isplitr
  · unfold records
    isplitl <;> iassumption
  · iexact Hp

theorem allocate : (bigSep Finset.univ fun c => iprop(Pipeline.ownSems0 (Ix := Unit) (Name := ℕ) (U := UU) (Lvl := ℕ) (Val := Elt F) (τ := τ) osem c
      ∗ unscopedSems0 c ∗ dealt m c) : sProp 𝕄)
    ⊢ |={Set.univ}=> bigSep Finset.univ (known m) :=
  ((bigSep_mono fun c _ => alloc_one m c).trans (bigSep_fupd _ _)).trans (BI.fupd_mono (share_records m))

/-! ## What each device is owed -/

/-- A device's debt, payment by payment. -/
theorem debt_apply (c : Dev nD) (g : GSem nD τ sig) : ∀ n, debt c n g () = ∑ k ∈ Finset.range n, if g = payee c k then fee k else 0
  | 0 => rfl
  | n + 1 => by
    rw [Finset.sum_range_succ, ← debt_apply c g n]
    show debt c n g () + tallyAt (payee c n) () (fee n) g () = _
    rw [tallyAt_apply]
    simp only [and_true]

theorem hit_bar (r : Fin 3) (d c : Dev nD) (n : ℕ) : (if barC c = barC (peer r d) then n else 0) = if d = peer r c then n else 0 := by
  by_cases h : d = peer r c
  · rw [if_pos h, if_pos (by rw [h, peer_peer])]
  · rw [if_neg h, if_neg fun e => h (by rw [barC_inj e, peer_peer])]
theorem hit_rcv (r r' : Fin 3) (d c : Dev nD) (n : ℕ) :
    (if rcvC r c = rcvC r' (peer r' d) then n else 0) = if d = peer r' c then (if r = r' then n else 0) else 0 := by
  by_cases h : d = peer r' c
  · by_cases h' : r = r'
    · subst h'; rw [if_pos h, if_pos rfl, if_pos (by rw [h, peer_peer])]
    · rw [if_pos h, if_neg h', if_neg fun e => h' (rcvC_inj e).1]
  · rw [if_neg h, if_neg fun e => h (by rw [(rcvC_inj e).2, peer_peer])]
theorem miss_bar (r : Fin 3) (a b : Dev nD) (n : ℕ) : (if barC a = rcvC r b then n else 0) = 0 := if_neg fun e => rcvC_ne_barC r b a e.symm
theorem miss_rcv (r : Fin 3) (a b : Dev nD) (n : ℕ) : (if rcvC r a = barC b then n else 0) = 0 := if_neg (rcvC_ne_barC r a b)

theorem owed_bar (c : Dev nD) : (∑ d : Dev nD, debt d 6 (barC c) ()) = 3 := by
  simp only [debt_apply, Finset.sum_range_succ, Finset.sum_range_zero, payee, fee, hit_bar, miss_bar, Finset.sum_add_distrib,
    Finset.sum_ite_eq', Finset.mem_univ, if_true, Finset.sum_const_zero]
  rfl
theorem owed_rcv (r : Fin 3) (c : Dev nD) : (∑ d : Dev nD, debt d 6 (rcvC r c) ()) = rowN := by
  simp only [debt_apply, Finset.sum_range_succ, Finset.sum_range_zero, payee, fee, hit_rcv, miss_rcv, Finset.sum_add_distrib,
    Finset.sum_ite_eq', Finset.mem_univ, if_true, Finset.sum_const_zero]
  fin_cases r <;> rfl

theorem credit_of (g : GSem nD τ sig) (n : ℕ) (h : (∑ d : Dev nD, debt d 6 g ()) = n) :
    tallyOn g (launchCredit (Pipeline.owing fun d : Dev nD => debt d 6) 0 g) = (tallyAt g () n : CellTallies nD τ sig Unit) := by
  unfold tallyAt
  refine congrArg _ (Finsupp.ext fun u => ?_)
  cases u
  rw [Pipeline.launchCredit_owing, Finsupp.single_eq_same, h]

theorem credits (c : Dev nD) : (Pipeline.launchCred (fun d : Dev nD => debt d 6) c : sProp 𝕄) ⊢ dueTo c := by
  unfold Pipeline.launchCred dueTo
  refine (bigSep_subset (Finset.subset_univ (Finset.univ.map ⟨sems, sems_inj⟩))).trans ?_
  rw [bigSep_map, over7, over3, ← credit_of (barC c) 3 (owed_bar c), ← credit_of (rcvC 0 c) rowN (owed_rcv 0 c),
    ← credit_of (rcvC 1 c) rowN (owed_rcv 1 c), ← credit_of (rcvC 2 c) rowN (owed_rcv 2 c)]
  show iprop(_ ∗ _ ∗ _ ∗ _ ∗ _ ∗ _ ∗ _) ⊢ (iprop(_ ∗ _) : sProp 𝕄)
  iintro ⟨H0, -, -, -, H1, H2, H3⟩
  isplitl [H0]; · iexact H0
  isplitl [H1]; · iexact H1
  isplitl [H2] <;> iassumption

/-! ## The launch's side conditions -/

theorem share_eq (c : Dev nD) (w : Fin cfg0.W) : (dats m 0 c).share w = fullShare := by unfold Dat.share; split <;> rfl

theorem starting (ρ : Dev nD → PrngReg) (c : Dev nD) :
    iprop(Pipeline.unscopedRestP Pipeline.Prefetch.none cfg0.spec c (fun b => m ((c : Thread nD τ).loc b)) ∗ levAts waitsOf lev
        ∗ Pipeline.launchCred (fun d : Dev nD => debt d 6) c ∗ prngReg c (ρ c) ∗ known m c)
      ⊢ |={Set.univ}=> iprop(start m c ∗ emp) := by
  unfold start known
  iintro ⟨-, Hl, Hc, -, HK⟩
  ihave Hc := (credits (F := F) c) $$ Hc
  imodintro
  isplitl
  · isplitl [HK]; · iexact HK
    isplitl [Hc] <;> iassumption
  · iempintro

theorem entering (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ before m c
  unfold before
  iintro ⟨Hs, -, Hr⟩
  isplitl [Hs]; · iexact Hs
  iapply (rows_intro c); iexact Hr

theorem leaving (c : Dev nD) :
    (dats m 0 c).Φ (Fin.last cfg0.N) ⊢ iprop(unscopedSems0 c ∗ Pipeline.ownSems0 osem c ∗ Pipeline.scopedRest cfg0.spec c) := by
  show after c ⊢ _
  unfold after
  rw [sevenSems]
  iintro ⟨Hr, Hu, Ho⟩
  isplitl [Hu]; · iexact Hu
  isplitl [Ho]; · iexact Ho
  iapply (rows_elim c); iexact Hr

theorem staging_waits (c : Dev nD) : (levAts waitsOf lev : sProp 𝕄) ⊢ Pipeline.cellsWaits cfgs (dats m) () 0 c :=
  Pipeline.cellsWaits_intro cfgs (dats m) () 0 c fun w s t => by
    have hs : height (role (.dma (((cfgs 0).win w).sem s) : SemLoc sig)) = 0 := by fin_cases w <;> fin_cases s <;> decide
    rcases t with ⟨_ | _, ht⟩
    · exact may_wait_low c _ hs 6
    · exact may_wait_low c _ hs 0

/-! ## The run -/

set_option maxRecDepth 8000 in
/-- On eight devices, at any float values, from any memory with every semaphore at zero: every weakly fair execution of
    the kernel's program terminates, and leaves every window's array as the pipeline's write-backs leave it and every
    semaphore at zero. -/
theorem run_main (ρ : Dev nD → PrngReg) : θ_run defs (onTc (τ := τ) (main (F := F))) ⟨m, fun _ => 0, ρ⟩
    (fun r => (∀ (c : Dev nD) (w : Fin cfg0.W), r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_meets m c).loose) (hne := block_pos0) (harr := arr_whole0) (hstage := stage_whole0) (hshare := share_eq m)
    (hdistinct := winFacts0.arr_inj)
    (O₀ := fun d => debt d 6) (howed₀ := fun _ => rfl) (howedN := fun _ => rfl)
    (L := waitsOf) (lv := lev) (hL := waitsOf_off) (hwaits := staging_waits m)
    (G := dealt m) (G' := known m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := allocate m)
    (hA := fun _ _ => rfl) (hpf := fun _ k => k.elim0)
    (X := start m) (Y := fun c => unscopedSems0 c) (Z := fun _ => iprop(emp))
    (hX := starting m ρ) (hin := entering m) (hout := leaving m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Arrays.lean ====
/- What the arrays hold: a window is the whole of its array, so the staging buffers hold the arguments, the argument
   arrays end as they were, and the output array ends holding the stored result. -/
module

public import proofs.«01_k».proof.Proof.Body
public import Idealize.ShloMosaic.Lib.ValueIdx
public import Idealize.ShloMosaic.Lib.VecWindow

@[expose] public section

noncomputable section

namespace Cert.Moe

open Cert.KernelIdeal Cert.KernelIdeal.Gen
open Idealize.ShloMosaic Idealize.ShloMosaic.TcCoe Idealize.ShloMosaic.ValueIdx
open Idealize.SL Idealize.SL.Sem

variable {F : FTy → Type} [FloatOps F] (m : (ℓ : Loc nD τ sig) → Buf (Elt F) ℓ) (c : Dev nD)

/-- The tokens, -/
theorem xB_eq : xB m c = m ((c : Thread nD τ).loc main_arg0) :=
  Memref.read_access_unit_zero (Elt F) main_arg0 (funext fun a => by fin_cases a <;> decide) (fun a => by fin_cases a <;> decide) _
/-- the routing weights, -/
theorem rB_eq : rB m c = m ((c : Thread nD τ).loc main_arg1) :=
  Memref.read_access_unit_zero (Elt F) main_arg1 (funext fun a => by fin_cases a <;> decide) (fun a => by fin_cases a <;> decide) _
/-- the routing indices, -/
theorem iB_eq : iB m c = m ((c : Thread nD τ).loc main_arg2) :=
  Memref.read_access_unit_zero (Elt F) main_arg2 (funext fun a => by fin_cases a <;> decide) (fun a => by fin_cases a <;> decide) _
/-- the device's experts -/
theorem eB_eq : eB m c = m ((c : Thread nD τ).loc main_arg3) :=
  Memref.read_access_unit_zero (Elt F) main_arg3 (funext fun a => by fin_cases a <;> decide) (fun a => by fin_cases a <;> decide) _
/-- and the shared weights as staged are the arguments. -/
theorem sB_eq : sB m c = m ((c : Thread nD τ).loc main_arg4) :=
  Memref.read_access_unit_zero (Elt F) main_arg4 (funext fun a => by fin_cases a <;> decide) (fun a => by fin_cases a <;> decide) _

/-- The device's first expert's weights, at an element, -/
theorem slab0_at (k : Fin 128) (h : Fin 256) : slab0 m c (ix3 0 k h) = eB m c (ix3 0 k h) :=
  congrArg (eB m c) (funext fun a => Fin.ext (by match a with | ⟨0, _⟩ => rfl | ⟨1, _⟩ => exact (Nat.zero_add _).trans (Nat.one_mul _) | ⟨2, _⟩ => exact (Nat.zero_add _).trans (Nat.one_mul _)))
/-- and its second's. -/
theorem slab1_at (k : Fin 128) (h : Fin 256) : slab1 m c (ix3 0 k h) = eB m c (ix3 1 k h) :=
  congrArg (eB m c) (funext fun a => Fin.ext (by match a with | ⟨0, _⟩ => rfl | ⟨1, _⟩ => exact (Nat.zero_add _).trans (Nat.one_mul _) | ⟨2, _⟩ => exact (Nat.zero_add _).trans (Nat.one_mul _)))

/-- The output array ends holding the result the device stores. -/
theorem out_eq : (dats m 0 c).arrAt (5 : Fin 6) cfg0.N = res m c := by
  have hw : (win0_5.blk t0_0).view.read (Elt F) ((dats m 0 c).arrAt (5 : Fin 6) (t0_0.val + 1)) = res m c := by
    rw [(dats m 0 c).arrAt_succ (5 : Fin 6) t0_0, if_pos (by decide)]
    exact View.read_write_univ _ _
  exact (Memref.read_access_unit_zero (Elt F) main_v1 (funext fun a => by fin_cases a <;> decide) (fun a => by fin_cases a <;> decide) _).symm.trans hw

end Cert.Moe

end
-- ==== Proof.MeshSum.lean ====
/- The three exchanges leave every device with the sum of all eight devices' shares. -/
module

public import proofs.«01_k».proof.Proof.Protocol
public import Idealize.ShloMosaic.Lib.ValueIdx
public import Mathlib.Algebra.BigOperators.Fin

@[expose] public section

noncomputable section

open scoped BigOperators

namespace Cert.Moe

open Cert.KernelIdeal Cert.KernelIdeal.Gen
open Idealize.ShloMosaic Idealize.ShloMosaic.ValueIdx

/-- A sum over the devices in the order the exchanges form it, seen from device `c`. -/
theorem sum_peers (f : Dev nD → EReal) (c : Dev nD) :
    ((f c + f (peer 0 c)) + (f (peer 1 c) + f (peer 0 (peer 1 c))))
      + ((f (peer 2 c) + f (peer 0 (peer 2 c))) + (f (peer 1 (peer 2 c)) + f (peer 0 (peer 1 (peer 2 c))))) = ∑ d, f d := by
  let l : List (Dev nD) := [c, peer 0 c, peer 1 c, peer 0 (peer 1 c), peer 2 c, peer 0 (peer 2 c), peer 1 (peer 2 c), peer 0 (peer 1 (peer 2 c))]
  have hn : l.Nodup := by revert c; decide
  have hu : l.toFinset = Finset.univ := by revert c; decide
  rw [← hu, List.sum_toFinset f hn]
  simp only [l, List.map_cons, List.map_nil, List.sum_cons, List.sum_nil, add_zero, add_assoc]

/-- The running sum after the third exchange, at an element. -/
theorem acc_at (m : (ℓ : Loc nD τ sig) → Buf (Elt Ideal) ℓ) (c : Dev nD) (i : S256x256.Idx) :
    acc m 3 c i = ∑ d, own m d i := by
  have s (r : Fin 3) (d : Dev nD) : acc m (r.val + 1) d i = acc m r.val d i + acc m r.val (peer r d) i := by
    rw [acc_succ, addf_apply]
  have s0 := s 0; have s1 := s 1; have s2 := s 2
  rw [← sum_peers (fun d => own m d i) c]
  show acc m ((2 : Fin 3).val + 1) c i = _
  rw [s2]
  show acc m ((1 : Fin 3).val + 1) c i + acc m ((1 : Fin 3).val + 1) (peer 2 c) i = _
  rw [s1, s1]
  show (acc m ((0 : Fin 3).val + 1) c i + acc m ((0 : Fin 3).val + 1) (peer 1 c) i)
    + (acc m ((0 : Fin 3).val + 1) (peer 2 c) i + acc m ((0 : Fin 3).val + 1) (peer 1 (peer 2 c)) i) = _
  rw [s0, s0, s0, s0]
  rfl

end Cert.Moe

end
-- ==== Proof.Routing.lean ====
/- The routed layer at one element, as sums over the experts: what picking by a routing word gives, and what the eight
   devices' shares, two experts each, add up to. -/
module

public import Idealize.ShloMosaic.Lib.ValueIdx
public import Mathlib.Algebra.BigOperators.Fin
public import Mathlib.Logic.Equiv.Fin.Basic

@[expose] public section

noncomputable section

open scoped BigOperators

namespace Cert.Moe

open Idealize.ShloMosaic Idealize.ShloMosaic.ValueIdx

/-- The word of expert `e`. -/
abbrev word (e : Fin 16) : BitVec 32 := BitVec.ofNat 32 e.val

/-- Different experts have different words. -/
theorem word_inj : ∀ a b : Fin 16, word a = word b → a = b := by decide

/-- The value of `f` at the expert whose word is `w`; zero if `w` is no expert's word. -/
def pick (w : BitVec 32) (f : Fin 16 → EReal) : EReal := ∑ e : Fin 16, if w = word e then f e else 0

theorem pick_word (e : Fin 16) (f : Fin 16 → EReal) : pick (word e) f = f e := by
  unfold pick
  rw [Finset.sum_eq_single e (fun b _ hb => if_neg fun h => hb (word_inj _ _ h).symm) (fun h => absurd (Finset.mem_univ _) h)]
  exact if_pos rfl

theorem pick_none (w : BitVec 32) (h : ∀ e : Fin 16, w ≠ word e) (f : Fin 16 → EReal) : pick w f = 0 :=
  Finset.sum_eq_zero fun e _ => if_neg (h e)

/-- Every word is an expert's or no expert's. -/
theorem word_cases (w : BitVec 32) : (∃ e : Fin 16, w = word e) ∨ ∀ e : Fin 16, w ≠ word e := by
  by_cases h : ∃ e : Fin 16, w = word e
  · exact .inl h
  · exact .inr fun e he => h ⟨e, he⟩

/-- Expert `j` of device `d` in the whole list of experts. -/
abbrev expertOf (d : Fin 8) (j : Fin 2) : Fin 16 := ⟨d.val * 2 + j.val, by omega⟩

/-- A sum over the experts is a sum over the devices of their two experts' terms. -/
theorem sum_experts (f : Fin 16 → EReal) : ∑ e, f e = ∑ d : Fin 8, (f (expertOf d 0) + f (expertOf d 1)) := by
  rw [← Equiv.sum_comp (finProdFinEquiv : Fin 8 × Fin 2 ≃ Fin 16) f, Fintype.sum_prod_type]
  refine Finset.sum_congr rfl fun d _ => ?_
  rw [Fin.sum_univ_two]
  have e (j : Fin 2) : (finProdFinEquiv (d, j) : Fin 16) = expertOf d j := Fin.ext (by
    show j.val + 2 * d.val = d.val * 2 + j.val; omega)
  rw [e, e]

/-- One device's share: for each of its two experts, the token's probability `p` where the token is routed to it, times
    that expert's output `y`. -/
def share (w : BitVec 32) (p : Fin 16 → EReal) (y : Fin 16 → EReal) (d : Fin 8) : EReal :=
  (if w = word (expertOf d 0) then pick w p else 0) * y (expertOf d 0)
    + (if w = word (expertOf d 1) then pick w p else 0) * y (expertOf d 1)

/-- The devices' shares add up to the output of the token's expert, weighted. -/
theorem sum_share (w : BitVec 32) (p y : Fin 16 → EReal) : ∑ d, share w p y d = pick w p * pick w y := by
  unfold share
  rw [← sum_experts fun e => (if w = word e then pick w p else 0) * y e]
  have h : ∀ e : Fin 16, (if w = word e then pick w p else 0) * y e = if w = word e then pick w p * y e else 0 := fun e => by
    by_cases he : w = word e
    · rw [if_pos he, if_pos he]
    · rw [if_neg he, if_neg he, zero_mul]
  rw [Finset.sum_congr rfl fun e _ => h e]
  show pick w (fun e => pick w p * y e) = _
  rcases word_cases w with ⟨e, rfl⟩ | hn
  · rw [pick_word, pick_word, pick_word]
  · rw [pick_none w hn, pick_none w hn, zero_mul]

end Cert.Moe

end
-- ==== Proof.Share.lean ====
/- What one device computes, at one element of its result: its share of the routed sum and the shared expert's output. -/
module

public import proofs.«01_k».proof.Proof.Routing
public import proofs.«01_k».proof.Proof.Gen.KernelIdeal
public import proofs.«01_k».proof.Proof.Gen.KernelIdeal.Skeleton
public import Idealize.ShloMosaic.Lib.KernelVsHost
public import Idealize.ShloMosaic.Lib.StackMember
public import Idealize.ShloMosaic.Lib.ValueLayout
public import Idealize.ShloMosaic.Lib.StableHlo.Predicate

@[expose] public section

noncomputable section

open scoped BigOperators

namespace Cert.Moe

open Cert.KernelIdeal Cert.KernelIdeal.Gen
open Idealize.ShloMosaic Idealize.ShloMosaic.ValueIdx

/-- Row `t` of the tokens times column `h` of a weight matrix. -/
abbrev rowCol (x : FVec Ideal S256x128 .f32) (W : FVec Ideal S128x256 .f32) (t h : Fin 256) : EReal :=
  ∑ k : Fin 128, x (ix2 t k) * W (ix2 k h)

/-- The kernel's product of the tokens with a weight matrix, from a zero accumulator, at an element. -/
theorem matmul_at (x : FVec Ideal S256x128 .f32) (W : FVec Ideal S128x256 .f32) (t h : Fin 256) :
    matmul dot_S256x128_S128x256_S256x256_1_0_0_1_n_n none x W (constant S256x256 .f32 0x00000000#32) (ix2 t h) = rowCol x W t h := by
  rw [matmul_zero_eq_dotGeneral]
  exact StackMember.dotGeneral_plain_apply none x W t h

/-- A column made of a vector, at an element. -/
theorem colOf_at {α : Type} (v : S256.Idx → α) (t : Fin 256) (u : Fin 1) :
    shapeCast S256x1 v shapeCasts_S256_S256x1 (ix2 t u) = v (ix1 t) :=
  shapeCast_apply v _ _ _ (by
    rw [Shape.rowMajor_val_two, Shape.rowMajor_val_one]
    show t.val = t.val * 1 + u.val
    omega)

/-- A column repeated along the experts, at an element. -/
theorem alongExperts_at {α : Type} (v : S256x1.Idx → α) (t : Fin 256) (e : Fin 16) :
    broadcastTo S256x16 v broadcasts_S256x1_S256x16 (ix2 t e) = v (ix2 t 0) :=
  broadcastTo_apply v _ _ _ (fun a => by match a with | ⟨0, _⟩ => rfl | ⟨1, _⟩ => rfl)

/-- A column repeated along the features, at an element. -/
theorem alongFeatures_at {α : Type} (v : S256x1.Idx → α) (t h : Fin 256) :
    broadcastTo S256x256 v broadcasts_S256x1_S256x256 (ix2 t h) = v (ix2 t 0) :=
  broadcastTo_apply v _ _ _ (fun a => by match a with | ⟨0, _⟩ => rfl | ⟨1, _⟩ => rfl)

/-- A choice on the equality of two words. -/
theorem select_eq (a b : BitVec 32) (x y : EReal) : Scalar.select (IntOp.cmpi .eq a b) x y = if a = b then x else y := by
  by_cases h : a = b
  · rw [StableHlo.Predicate.cmpi_eq_iff.mpr h, if_pos h]; rfl
  · rw [eq_zero_of_ne_one (mt StableHlo.Predicate.cmpi_eq_iff.mp h), if_neg h]; rfl

/-- The bits of the kernel's zero are zero. -/
theorem zero_word : (Scalar.ofBits (F := Ideal) .f32 0x00000000#32 : EReal) = 0 := Ideal.ofBits_zero_f32

/-- The routed expert's probability of each token, as the kernel picks it out of the probabilities. -/
abbrev top (idx : IVec S256x1 32) (P : FVec Ideal S256x16 .f32) : FVec Ideal S256 .f32 :=
  multiReduction .add [1] S256 (select (cmpi .eq (iota .tc S256x16 32 [1] iota_S256x16_d1_w32) (broadcastTo S256x16 idx broadcasts_S256x1_S256x16)) P
    (broadcast S256x16 (Scalar.ofBits (F := Ideal) .f32 0x00000000#32))) 0x00000000#32 reduces_S256x16_S256 (.inl rfl) rfl

theorem top_at (idx : IVec S256x1 32) (P : FVec Ideal S256x16 .f32) (t : Fin 256) :
    top idx P (ix1 t) = pick (idx (ix2 t 0)) fun e => P (ix2 t e) := by
  refine (Ideal.multiReduction_add_single _ _ _ _ _ _).trans (Finset.sum_congr rfl fun (e : Fin 16) _ => ?_)
  have hl : reduces_S256x16_S256.lift (ix1 t) e = ix2 t e := by
    funext a; match a with | ⟨0, _⟩ => rfl | ⟨1, _⟩ => rfl
  rw [hl]
  have hi : iota .tc S256x16 32 [1] iota_S256x16_d1_w32 (ix2 t e) = word e := by
    show BitVec.ofNat 32 (0 * 16 + e.val) = _
    rw [Nat.zero_mul, Nat.zero_add]
  rw [select_apply]
  show Scalar.select (IntOp.cmpi .eq (iota .tc S256x16 32 [1] iota_S256x16_d1_w32 (ix2 t e))
    (broadcastTo S256x16 idx broadcasts_S256x1_S256x16 (ix2 t e))) (P (ix2 t e)) _ = _
  rw [hi, alongExperts_at, select_eq, broadcast_apply, zero_word]
  simp only [eq_comm]

/-- One expert's term: the routed probability where the token's word is `v`, times the expert's output. -/
theorem term_at (v : BitVec 32) (x : FVec Ideal S256x128 .f32) (idx : IVec S256x1 32) (q : FVec Ideal S256 .f32)
    (s : FVec Ideal S1x128x256 .f32) (t h : Fin 256) :
    mulf (broadcastTo S256x256 (select (cmpi .eq idx (broadcast S256x1 v)) (shapeCast S256x1 q shapeCasts_S256_S256x1)
        (broadcast S256x1 (Scalar.ofBits (F := Ideal) .f32 0x00000000#32))) broadcasts_S256x1_S256x256)
      (matmul dot_S256x128_S128x256_S256x256_1_0_0_1_n_n none x (shapeCast S128x256 s shapeCasts_S1x128x256_S128x256)
        (constant S256x256 .f32 0x00000000#32)) (ix2 t h)
      = (if idx (ix2 t 0) = v then q (ix1 t) else 0) * ∑ k : Fin 128, x (ix2 t k) * s (ix3 0 k h) := by
  rw [mulf_apply, alongFeatures_at, matmul_at, select_apply]
  congr 1
  · show Scalar.select (IntOp.cmpi .eq (idx (ix2 t 0)) v) _ _ = _
    rw [select_eq, colOf_at, broadcast_apply, zero_word]
  · refine Finset.sum_congr rfl fun k _ => congrArg (x (ix2 t k) * ·) ?_
    exact shapeCast_1ab_ab_apply s _ k h

/-- A device's share of the routed sum, at an element. -/
theorem share_at (w : BitVec 32) (x : FVec Ideal S256x128 .f32) (idx : IVec S256x1 32) (P : FVec Ideal S256x16 .f32)
    (s0 s1 : FVec Ideal S1x128x256 .f32) (t h : Fin 256) :
    k0_pay4 w x idx P (iota .tc S256x16 32 [1] iota_S256x16_d1_w32) s0 s1 (ix2 t h)
      = (if idx (ix2 t 0) = Scalar.addi (Scalar.muli w 2#32) 0#32 then pick (idx (ix2 t 0)) fun e => P (ix2 t e) else 0)
            * (∑ k : Fin 128, x (ix2 t k) * s0 (ix3 0 k h))
        + (if idx (ix2 t 0) = Scalar.addi (Scalar.muli w 2#32) 1#32 then pick (idx (ix2 t 0)) fun e => P (ix2 t e) else 0)
            * ∑ k : Fin 128, x (ix2 t k) * s1 (ix3 0 k h) := by
  rw [← top_at, ← term_at, ← term_at]
  unfold k0_pay4
  dsimp only
  rw [addf_apply, addf_apply]
  exact congrArg (· + _) ((congrArg (· + _) zero_word).trans (zero_add _))

/-- The shared expert's output, at an element. -/
theorem shared_at (x : FVec Ideal S256x128 .f32) (W : FVec Ideal S128x256 .f32) (t h : Fin 256) :
    k0_pay5 x W (ix2 t h) = rowCol x W t h := by
  unfold k0_pay5
  rw [matmul_at, shapeCast_self]

end Cert.Moe

end
-- ==== Proof.RefRouting.lean ====
/- The reference's lookups by routing index, at one element: which tokens' indices are in range, the probability picked
   out of a token's row, and the expert's weights gathered for a token. -/
module

public import proofs.«01_k».proof.Proof.Routing
public import proofs.«01_k».proof.Proof.Gen.ReferenceIdeal
public import Idealize.ShloMosaic.Lib.ReduceAll
public import Idealize.ShloMosaic.Lib.StackMember
public import Idealize.ShloMosaic.Lib.Pipeline.Value

@[expose] public section

noncomputable section

open scoped BigOperators

namespace Cert.Moe.Ref

open Cert.ReferenceIdeal Cert.ReferenceIdeal.Gen
open Idealize.ShloMosaic Idealize.ShloMosaic.ValueIdx

/-! ## The indices -/

/-- The routing indices as a column. -/
abbrev col (I : IVec S256x1 32) : IVec S256x1 32 :=
  broadcastInDim S256x1 ![0] bcast_S256_S256x1_0 (shapeCast S256 I shapeCasts_S256x1_S256)

/-- Each token's number beside its routing index. -/
abbrev pairs (I : IVec S256x1 32) : IVec S256x2 32 :=
  concatenate S256x2 1 [⟨S256x1, broadcastInDim S256x1 ![0] bcast_S256_S256x1_0 (iotaInDim S256 32 0)⟩, ⟨S256x1, col I⟩]
    concatenates_S256x1_S256x1_S256x2_d1

/-- A vector laid as a column, at an element. -/
theorem colOf_at {α : Type} (v : S256.Idx → α) (t : Fin 256) (u : Fin 1) :
    broadcastInDim S256x1 ![0] bcast_S256_S256x1_0 v (ix2 t u) = v (ix1 t) :=
  broadcastInDim_apply _ _ _ _ _ (fun a => by match a with | ⟨0, _⟩ => rfl)

theorem col_at (I : IVec S256x1 32) (t : Fin 256) (u : Fin 1) : col I (ix2 t u) = I (ix2 t 0) := by
  refine (colOf_at _ t u).trans ?_
  exact shapeCast_apply I _ _ _ (by
    rw [Shape.rowMajor_val_two, Shape.rowMajor_val_one]
    show t.val * 1 + 0 = t.val
    omega)

theorem pairs_at_zero (I : IVec S256x1 32) (t : Fin 256) : pairs I (ix2 t 0) = BitVec.ofNat 32 t.val := by
  refine (concatenate_pair_apply_left (t := S256x2) 1 (broadcastInDim S256x1 ![0] bcast_S256_S256x1_0 (iotaInDim S256 32 0)) (col I)
    concatenates_S256x1_S256x1_S256x2_d1 (ix2 t 0) rfl (ix2 t 0) fun b => ?_).trans (colOf_at _ t 0)
  match b with | ⟨0, _⟩ => rfl | ⟨1, _⟩ => rfl

theorem pairs_at_one (I : IVec S256x1 32) (t : Fin 256) : pairs I (ix2 t 1) = I (ix2 t 0) := by
  refine (concatenate_pair_apply_right (t := S256x2) 1 (broadcastInDim S256x1 ![0] bcast_S256_S256x1_0 (iotaInDim S256 32 0)) (col I)
    concatenates_S256x1_S256x1_S256x2_d1 (ix2 t 1) rfl rfl (ix2 t 0) (fun b hb => ?_) ?_).trans (col_at I t 0)
  · match b with | ⟨0, _⟩ => rfl | ⟨1, _⟩ => exact absurd rfl hb
  · rfl

/-! ## Which indices are in range -/

/-- A conjunction over reduced axes holds at `j` exactly when every entry reduced into `j` holds. -/
theorem all_iff {s t u : Shape} {axes : List (Fin s.rank)} (x : s.Idx → BitVec 1) (init : u.Idx → BitVec 1) (h : s.ReducesTo axes t)
    (hu : 0 < u.numel) (h1 : init (Shape.Idx.first hu) = 1#1) (j : t.Idx) :
    Host.reduce IntOp.andi x init h hu j = 1#1 ↔ ∀ i, h.drop i = j → x i = 1#1 := by
  refine ⟨fun e i hi => Host.reduce_andi_eq_one x init h hu j e i hi, fun hx => ?_⟩
  rw [Host.reduce_eq_foldl]
  exact IntOp.foldl_andi_one x _ _ h1 fun i hi => hx i (of_decide_eq_true (List.mem_filter.1 hi).2)

/-- An index is between 0 and 15 exactly when it is an expert's word. -/
theorem inRange_iff (w : BitVec 32) :
    IntOp.andi (IntOp.cmpi .sge w 0#32) (IntOp.cmpi .sle w 15#32) = 1#1 ↔ ∃ e : Fin 16, w = word e := by
  rw [IntOp.andi_eq_one, IntOp.cmpi_sge, IntOp.cmpi_sle]
  constructor
  · rintro ⟨h0, h1⟩
    have e0 : (0#32).toInt = 0 := by decide
    have e1 : (15#32).toInt = 15 := by decide
    rw [e0] at h0
    rw [e1] at h1
    rw [BitVec.toInt_eq_toNat_cond] at h0 h1
    have hw := w.isLt
    refine ⟨⟨w.toNat, by split at h0 <;> omega⟩, ?_⟩
    show w = BitVec.ofNat 32 w.toNat
    simp
  · rintro ⟨e, rfl⟩
    revert e; decide

/-- A token's number is between 0 and 255. -/
theorem token_inRange : ∀ t : Fin 256,
    IntOp.andi (IntOp.cmpi .sge (BitVec.ofNat 32 t.val) 0#32) (IntOp.cmpi .sle (BitVec.ofNat 32 t.val) 255#32) = 1#1 := by decide +kernel

/-- Where the routing index alone is in range. -/
abbrev okCol (I : IVec S256x1 32) : IVec S256 1 :=
  Host.reduce IntOp.andi (andi (cmpi .sge (col I) (broadcastInDim S256x1 ![] bcast_S_S256x1 (constantI S_ 32 0#32)))
    (cmpi .sle (col I) (broadcastInDim S256x1 ![0, 1] bcast_S1x1_S256x1_0_1 (broadcastInDim S1x1 ![1] bcast_S1_S1x1_1 (constantI S1 32 15#32)))))
    (constantI S_ 1 1#1) reducesTo_S256x1_S256_d1 h_S_

theorem okCol_iff (I : IVec S256x1 32) (t : Fin 256) : okCol I (ix1 t) = 1#1 ↔ ∃ e : Fin 16, I (ix2 t 0) = word e := by
  rw [← inRange_iff]
  refine (all_iff _ _ _ _ rfl _).trans ⟨fun h => ?_, fun h i hi => ?_⟩
  · have := h (ix2 t 0) (by funext a; match a with | ⟨0, _⟩ => rfl)
    rw [← col_at I t 0]
    exact this
  · have hi0 : i = ix2 t 0 := by
      funext a
      match a with
      | ⟨0, _⟩ => exact congrFun hi 0
      | ⟨1, _⟩ => exact Subsingleton.elim (α := Fin 1) _ _
    rw [← col_at I t 0] at h
    rw [hi0]
    exact h

/-- Where the token's number and its routing index are in range. -/
abbrev okPairs (I : IVec S256x1 32) : IVec S256 1 :=
  Host.reduce IntOp.andi (andi (cmpi .sge (pairs I) (broadcastInDim S256x2 ![] bcast_S_S256x2 (constantI S_ 32 0#32)))
    (cmpi .sle (pairs I) (broadcastInDim S256x2 ![0, 1] bcast_S1x2_S256x2_0_1 (broadcastInDim S1x2 ![1] bcast_S2_S1x2_1 (fun i => lit0 (S2.rowMajor i))))))
    (constantI S_ 1 1#1) reducesTo_S256x2_S256_d1 h_S_

/-- The two bounds, at an element. -/
theorem bounds_at (t : Fin 256) (u : Fin 2) :
    broadcastInDim S256x2 ![0, 1] bcast_S1x2_S256x2_0_1 (broadcastInDim S1x2 ![1] bcast_S2_S1x2_1 (fun i => lit0 (S2.rowMajor i))) (ix2 t u) = lit0 u := by
  refine (broadcastInDim_apply _ _ _ _ (ix2 0 u) (fun a => by match a with | ⟨0, _⟩ => rfl | ⟨1, _⟩ => rfl)).trans ?_
  refine (broadcastInDim_apply _ _ _ _ (ix1 u) (fun a => by match a with | ⟨0, _⟩ => rfl)).trans ?_
  exact congrArg lit0 (Fin.ext (Shape.rowMajor_val_one _))

theorem okPairs_iff (I : IVec S256x1 32) (t : Fin 256) : okPairs I (ix1 t) = 1#1 ↔ ∃ e : Fin 16, I (ix2 t 0) = word e := by
  have at_ (u : Fin 2) : (andi (cmpi .sge (pairs I) (broadcastInDim S256x2 ![] bcast_S_S256x2 (constantI S_ 32 0#32)))
      (cmpi .sle (pairs I) (broadcastInDim S256x2 ![0, 1] bcast_S1x2_S256x2_0_1 (broadcastInDim S1x2 ![1] bcast_S2_S1x2_1 (fun i => lit0 (S2.rowMajor i))))))
        (ix2 t u) = IntOp.andi (IntOp.cmpi .sge (pairs I (ix2 t u)) 0#32) (IntOp.cmpi .sle (pairs I (ix2 t u)) (lit0 u)) :=
    congrArg (fun b => IntOp.andi (IntOp.cmpi .sge (pairs I (ix2 t u)) 0#32) (IntOp.cmpi .sle (pairs I (ix2 t u)) b)) (bounds_at t u)
  rw [← inRange_iff]
  refine (all_iff _ _ _ _ rfl _).trans ⟨fun h => ?_, fun h i hi => ?_⟩
  · have := h (ix2 t 1) (by funext a; match a with | ⟨0, _⟩ => rfl)
    have h1 := (at_ 1).symm.trans this
    rw [pairs_at_one] at h1
    exact h1
  · have hi0 : i = ix2 t (i 1) := by
      funext a
      match a with
      | ⟨0, _⟩ => exact congrFun hi 0
      | ⟨1, _⟩ => rfl
    rw [hi0]
    refine (at_ (i 1)).trans ?_
    have both (u : Fin 2) : IntOp.andi (IntOp.cmpi .sge (pairs I (ix2 t u)) 0#32) (IntOp.cmpi .sle (pairs I (ix2 t u)) (lit0 u)) = 1#1 := by
      match u with
      | 0 => rw [pairs_at_zero]; exact token_inRange t
      | 1 => rw [pairs_at_one]; exact h
    exact both (i 1)

/-! ## The lookups -/

/-- The word of a small number reads back as the number. -/
theorem toInt_token : ∀ t : Fin 256, min (BitVec.ofNat 32 t.val).toInt.toNat (256 - 1) = t.val := by decide +kernel
theorem toInt_word : ∀ e : Fin 16, min (word e).toInt.toNat (16 - 1) = e.val := by decide

/-- The probability looked up for a token routed to expert `e`. -/
theorem lookup_prob (P : FVec Ideal S256x16 .f32) (I : IVec S256x1 32) (t : Fin 256) (e : Fin 16) (he : I (ix2 t 0) = word e) :
    Host.gather gather_S256x16_S256x2_S256_n_01_n_n_01_1_11 P (pairs I) (ix1 t) = P (ix2 t e) := by
  unfold Host.gather
  refine congrArg P (funext fun a => Fin.ext ?_)
  match a with
  | ⟨0, _⟩ =>
    show min (pairs I (GatherDims.siIdx _ (ix1 t) ⟨0, by decide⟩)).toInt.toNat (256 - 1) + 0 + 0 = t.val
    rw [show GatherDims.siIdx gather_S256x16_S256x2_S256_n_01_n_n_01_1_11 (ix1 t) ⟨0, by decide⟩ = ix2 t 0 from
      funext fun b => by match b with | ⟨0, _⟩ => rfl | ⟨1, _⟩ => rfl, pairs_at_zero]
    exact toInt_token t
  | ⟨1, _⟩ =>
    show min (pairs I (GatherDims.siIdx _ (ix1 t) ⟨1, by decide⟩)).toInt.toNat (16 - 1) + 0 + 0 = e.val
    rw [show GatherDims.siIdx gather_S256x16_S256x2_S256_n_01_n_n_01_1_11 (ix1 t) ⟨1, by decide⟩ = ix2 t 1 from
      funext fun b => by match b with | ⟨0, _⟩ => rfl | ⟨1, _⟩ => rfl, pairs_at_one, he]
    exact toInt_word e

/-- The weights looked up for a token routed to expert `e`. -/
theorem lookup_weights (E : FVec Ideal S16x128x256 .f32) (I : IVec S256x1 32) (t : Fin 256) (k : Fin 128) (h : Fin 256) (e : Fin 16)
    (he : I (ix2 t 0) = word e) :
    Host.gather gather_S16x128x256_S256x1_S256x128x256_12_0_n_n_0_1_1128256 E (col I) (ix3 t k h) = E (ix3 e k h) := by
  unfold Host.gather
  refine congrArg E (funext fun a => Fin.ext ?_)
  match a with
  | ⟨0, _⟩ =>
    show min (col I (GatherDims.siIdx _ (ix3 t k h) ⟨0, by decide⟩)).toInt.toNat (16 - 1) + 0 + 0 = e.val
    rw [show GatherDims.siIdx gather_S16x128x256_S256x1_S256x128x256_12_0_n_n_0_1_1128256 (ix3 t k h) ⟨0, by decide⟩ = ix2 t 0 from
      funext fun b => by match b with | ⟨0, _⟩ => rfl | ⟨1, _⟩ => rfl, col_at, he]
    exact toInt_word e
  | ⟨1, _⟩ => show 0 + 0 + k.val = k.val; omega
  | ⟨2, _⟩ => show 0 + 0 + h.val = h.val; omega

end Cert.Moe.Ref

end
-- ==== Proof.RefValue.lean ====
/- The reference's result at one element: the shared expert's output plus the routed expert's, weighted by its probability. -/
module

public import proofs.«01_k».proof.Proof.RefRouting

@[expose] public section

noncomputable section

open scoped BigOperators

namespace Cert.Moe.Ref

open Cert.ReferenceIdeal Cert.ReferenceIdeal.Gen
open Idealize.ShloMosaic Idealize.ShloMosaic.ValueIdx

/-- The scores of every expert for every token. -/
abbrev scores (x : FVec Ideal S256x128 .f32) (R : FVec Ideal S128x16 .f32) : FVec Ideal S256x16 .f32 :=
  Host.dotGeneral dot_S256x128_S128x16_S256x16_1_0_0_1_n_n none x R

/-- A vector over the tokens repeated along the experts. -/
abbrev alongExperts (v : FVec Ideal S256 .f32) : FVec Ideal S256x16 .f32 :=
  broadcastInDim S256x16 ![0, 1] bcast_S256x1_S256x16_0_1 (broadcastInDim S256x1 ![0] bcast_S256_S256x1_0 v)

/-- The largest score of each row. -/
abbrev rowTop (s : FVec Ideal S256x16 .f32) : FVec Ideal S256 .f32 :=
  Host.reduce FloatOps.maximumf s (constant S_ .f32 0xFF800000#32) reducesTo_S256x16_S256_d1 h_S_

/-- The sum of each row. -/
abbrev rowSum (s : FVec Ideal S256x16 .f32) : FVec Ideal S256 .f32 :=
  Host.reduceAdd s (constant S_ .f32 0x00000000#32) reducesTo_S256x16_S256_d1 h_S_

/-- The exponentials of the scores less their row's largest. -/
abbrev exps (x : FVec Ideal S256x128 .f32) (R : FVec Ideal S128x16 .f32) : FVec Ideal S256x16 .f32 :=
  Host.exp (subf (scores x R) (alongExperts (rowTop (scores x R))))

/-- The probabilities: each row's exponentials over their sum. -/
abbrev probs (x : FVec Ideal S256x128 .f32) (R : FVec Ideal S128x16 .f32) : FVec Ideal S256x16 .f32 :=
  Host.divf (exps x R) (alongExperts (rowSum (exps x R)))

/-- Each token's probability of the expert it is routed to; zero out of range. -/
abbrev prob (P : FVec Ideal S256x16 .f32) (I : IVec S256x1 32) : FVec Ideal S256 .f32 :=
  select (okPairs I) (Host.gather gather_S256x16_S256x2_S256_n_01_n_n_01_1_11 P (pairs I))
    (broadcastInDim S256 ![] bcast_S_S256 (constant S_ .f32 0x00000000#32))

/-- Each token's expert's weights; zero out of range. -/
abbrev weights (E : FVec Ideal S16x128x256 .f32) (I : IVec S256x1 32) : FVec Ideal S256x128x256 .f32 :=
  select (broadcastInDim S256x128x256 ![0] bcast_S256_S256x128x256_0 (okCol I))
    (Host.gather gather_S16x128x256_S256x1_S256x128x256_12_0_n_n_0_1_1128256 E (col I))
    (broadcastInDim S256x128x256 ![] bcast_S_S256x128x256 (constant S_ .f32 0x00000000#32))

/-- The reference's result. -/
abbrev result (x : FVec Ideal S256x128 .f32) (R : FVec Ideal S128x16 .f32) (I : IVec S256x1 32) (E : FVec Ideal S16x128x256 .f32)
    (S : FVec Ideal S128x256 .f32) : FVec Ideal S256x256 .f32 :=
  addf (Host.dotGeneral dot_S256x128_S128x256_S256x256_1_0_0_1_n_n none x S)
    (mulf (broadcastInDim S256x256 ![0, 1] bcast_S256x1_S256x256_0_1 (broadcastInDim S256x1 ![0] bcast_S256_S256x1_0 (prob (probs x R) I)))
      (Host.dotGeneral dot_S256x128_S256x128x256_S256x256_1_1_n_2_0_0 none x (weights E I)))

/-- A choice by a bit that is one exactly when the token's word is an expert's. -/
theorem select_word (b : BitVec 1) (w : BitVec 32) (hb : b = 1#1 ↔ ∃ e : Fin 16, w = word e) (x : EReal) (f : Fin 16 → EReal)
    (hx : ∀ e, w = word e → x = f e) : Scalar.select b x (0 : EReal) = pick w f := by
  rcases word_cases w with ⟨e, he⟩ | hn
  · rw [hb.mpr ⟨e, he⟩, select_one, hx e he, he, pick_word]
  · rw [eq_zero_of_ne_one (fun h => (hb.mp h).elim hn), select_zero, pick_none w hn]

theorem prob_at (P : FVec Ideal S256x16 .f32) (I : IVec S256x1 32) (t : Fin 256) :
    prob P I (ix1 t) = pick (I (ix2 t 0)) fun e => P (ix2 t e) := by
  rw [← select_word (okPairs I (ix1 t)) (I (ix2 t 0)) (okPairs_iff I t) _ _ fun e he => lookup_prob P I t e he]
  exact congrArg (Scalar.select _ _) Ideal.ofBits_zero_f32

theorem weights_at (E : FVec Ideal S16x128x256 .f32) (I : IVec S256x1 32) (t : Fin 256) (k : Fin 128) (h : Fin 256) :
    weights E I (ix3 t k h) = pick (I (ix2 t 0)) fun e => E (ix3 e k h) := by
  rw [← select_word (okCol I (ix1 t)) (I (ix2 t 0)) (okCol_iff I t) _ _ fun e he => lookup_weights E I t k h e he]
  have hb : broadcastInDim S256x128x256 ![0] bcast_S256_S256x128x256_0 (okCol I) (ix3 t k h) = okCol I (ix1 t) :=
    broadcastInDim_apply _ _ _ _ _ (fun a => by match a with | ⟨0, _⟩ => rfl)
  show Scalar.select (broadcastInDim S256x128x256 ![0] bcast_S256_S256x128x256_0 (okCol I) (ix3 t k h)) _ _ = _
  rw [hb]
  exact congrArg (Scalar.select _ _) Ideal.ofBits_zero_f32

/-- Each token's row times its own weight matrix, at an element. -/
theorem perToken_at (x : FVec Ideal S256x128 .f32) (V : FVec Ideal S256x128x256 .f32) (t h : Fin 256) :
    Host.dotGeneral dot_S256x128_S256x128x256_S256x256_1_1_n_2_0_0 none x V (ix2 t h) = ∑ k : Fin 128, x (ix2 t k) * V (ix3 t k h) := by
  show FloatOps.dotGeneral _ none _ x V (ix2 t h) = _
  rw [Ideal.dotGeneral_apply,
    ← Equiv.sum_comp (contrEquiv1 dot_S256x128_S256x128x256_S256x256_1_1_n_2_0_0 128 rfl rfl).symm]
  refine Finset.sum_congr rfl fun k _ => ?_
  have hk := contrEquiv1_symm_val dot_S256x128_S256x128x256_S256x256_1_1_n_2_0_0 128 rfl rfl k
  have l : dot_S256x128_S256x128x256_S256x256_1_1_n_2_0_0.lhsIdx (ix2 t h) ((contrEquiv1 _ 128 rfl rfl).symm k) = ix2 t k := by
    funext a; apply Fin.ext
    match a with
    | ⟨0, _⟩ => rfl
    | ⟨1, _⟩ => exact hk
  have r : dot_S256x128_S256x128x256_S256x256_1_1_n_2_0_0.rhsIdx (ix2 t h) ((contrEquiv1 _ 128 rfl rfl).symm k) = ix3 t k h := by
    funext a; apply Fin.ext
    match a with
    | ⟨0, _⟩ => rfl
    | ⟨1, _⟩ => exact hk
    | ⟨2, _⟩ => rfl
  rw [l, r]

/-- A token's row times the weights picked for it is the picked expert's output. -/
theorem routed_at (x : FVec Ideal S256x128 .f32) (I : IVec S256x1 32) (E : FVec Ideal S16x128x256 .f32) (t h : Fin 256) :
    Host.dotGeneral dot_S256x128_S256x128x256_S256x256_1_1_n_2_0_0 none x (weights E I) (ix2 t h)
      = pick (I (ix2 t 0)) fun e => ∑ k : Fin 128, x (ix2 t k) * E (ix3 e k h) := by
  rw [perToken_at, Finset.sum_congr rfl fun k _ => congrArg (x (ix2 t k) * ·) (weights_at E I t k h)]
  rcases word_cases (I (ix2 t 0)) with ⟨e, he⟩ | hn
  · rw [he, pick_word]
    exact Finset.sum_congr rfl fun k _ => by rw [pick_word]
  · rw [pick_none _ hn]
    exact Finset.sum_eq_zero fun k _ => by rw [pick_none _ hn, mul_zero]

/-- The reference's result, at an element. -/
theorem result_at (x : FVec Ideal S256x128 .f32) (R : FVec Ideal S128x16 .f32) (I : IVec S256x1 32) (E : FVec Ideal S16x128x256 .f32)
    (S : FVec Ideal S128x256 .f32) (t h : Fin 256) :
    result x R I E S (ix2 t h) = (∑ k : Fin 128, x (ix2 t k) * S (ix2 k h))
      + pick (I (ix2 t 0)) (fun e => probs x R (ix2 t e)) * pick (I (ix2 t 0)) fun e => ∑ k : Fin 128, x (ix2 t k) * E (ix3 e k h) := by
  rw [← routed_at, ← prob_at]
  have hs : Host.dotGeneral dot_S256x128_S128x256_S256x256_1_0_0_1_n_n none x S (ix2 t h) = ∑ k : Fin 128, x (ix2 t k) * S (ix2 k h) :=
    StackMember.dotGeneral_plain_apply none x S t h
  have hp : broadcastInDim S256x256 ![0, 1] bcast_S256x1_S256x256_0_1 (broadcastInDim S256x1 ![0] bcast_S256_S256x1_0 (prob (probs x R) I)) (ix2 t h)
      = prob (probs x R) I (ix1 t) :=
    (broadcastInDim_apply _ _ _ _ (ix2 t 0) (fun a => by match a with | ⟨0, _⟩ => rfl | ⟨1, _⟩ => rfl)).trans (colOf_at _ t 0)
  rw [← hs, ← hp]
  rfl

end Cert.Moe.Ref

end
-- ==== Proof.Softmax.lean ====
/- The probabilities: the kernel's and the reference's are the same function of the tokens and the routing weights. -/
module

public import proofs.«01_k».proof.Proof.Share
public import proofs.«01_k».proof.Proof.RefValue

@[expose] public section

noncomputable section

namespace Cert.Moe

open Cert.KernelIdeal Cert.KernelIdeal.Gen
open Idealize.ShloMosaic Idealize.ShloMosaic.ValueIdx

/-- A vector over the tokens repeated along the experts: the kernel's way is the reference's. -/
theorem alongExperts_eq (v : FVec Ideal S256 .f32) :
    broadcastTo S256x16 (shapeCast S256x1 v shapeCasts_S256_S256x1) broadcasts_S256x1_S256x16 = Ref.alongExperts v := by
  funext i
  obtain ⟨t, e, rfl⟩ : ∃ (t : Fin 256) (e : Fin 16), i = ix2 t e := ⟨i 0, i 1, eq_ix2 i⟩
  rw [alongExperts_at, colOf_at]
  exact ((broadcastInDim_apply _ _ _ _ (ix2 t 0) (fun a => by match a with | ⟨0, _⟩ => rfl | ⟨1, _⟩ => rfl)).trans (Ref.colOf_at v t 0)).symm

/-- The kernel's largest score of each row. -/
def rowTop (s : FVec Ideal S256x16 .f32) : FVec Ideal S256 .f32 :=
  multiReduction .maximumf [1] S256 s 0xFF800000#32 reduces_S256x16_S256 (.inl rfl) rfl

/-- The kernel's sum of each row. -/
def rowSum (s : FVec Ideal S256x16 .f32) : FVec Ideal S256 .f32 :=
  multiReduction .add [1] S256 s 0x00000000#32 reduces_S256x16_S256 (.inl rfl) rfl

/-- The kernel's way to repeat a vector over the tokens along the experts. -/
def spread (v : FVec Ideal S256 .f32) : FVec Ideal S256x16 .f32 :=
  broadcastTo S256x16 (shapeCast S256x1 v shapeCasts_S256_S256x1) broadcasts_S256x1_S256x16

theorem rowTop_eq (s : FVec Ideal S256x16 .f32) : rowTop s = Ref.rowTop s :=
  (hostReduce_maximumf_eq_multiReduction _ _ _ _ _ _ _).symm

theorem rowSum_eq (s : FVec Ideal S256x16 .f32) : rowSum s = Ref.rowSum s :=
  multiReduction_add_eq_hostReduceAdd _ _ _ _ _ _ _ _ Ideal.ofBits_zero_f32

/-- The kernel's softmax of the scores. -/
def softmax (s : FVec Ideal S256x16 .f32) : FVec Ideal S256x16 .f32 :=
  divf (exp (subf s (spread (rowTop s)))) (spread (rowSum (exp (subf s (spread (rowTop s))))))

/-- The kernel's scores are the reference's. -/
theorem scores_eq (x : FVec Ideal S256x128 .f32) (R : FVec Ideal S128x16 .f32) :
    matmul dot_S256x128_S128x16_S256x16_1_0_0_1_n_n none (k0_pay1 x) (shapeCast S128x16 R shapeCasts_S128x16_S128x16)
      (constant S256x16 .f32 0x00000000#32) = Ref.scores x R := by
  unfold k0_pay1
  rw [matmul_zero_eq_dotGeneral, shapeCast_self, shapeCast_self]
  rfl

/-- The kernel's probabilities are the reference's. -/
theorem probs_eq (x : FVec Ideal S256x128 .f32) (R : FVec Ideal S128x16 .f32) : k0_pay3 x R = Ref.probs x R := by
  have h : k0_pay3 x R = softmax (matmul dot_S256x128_S128x16_S256x16_1_0_0_1_n_n none (k0_pay1 x)
      (shapeCast S128x16 R shapeCasts_S128x16_S128x16) (constant S256x16 .f32 0x00000000#32)) := rfl
  rw [h, scores_eq]
  unfold softmax
  rw [rowTop_eq, rowSum_eq, spread, spread, alongExperts_eq, alongExperts_eq]
  rfl

end Cert.Moe

end
-- ==== Proof.Equation.lean ====
/- The equation: from devices that hold the whole arguments, the experts dealt out two a device, every device stores the
   reference's result. -/
module

public import proofs.«01_k».proof.Proof.Arrays
public import proofs.«01_k».proof.Proof.MeshSum
public import proofs.«01_k».proof.Proof.Softmax
public import Idealize.ShloMosaic.Lib.LayoutAt

@[expose] public section

noncomputable section

open scoped BigOperators

namespace Cert.Moe

open Cert.KernelIdeal Cert.KernelIdeal.Gen
open Idealize.ShloMosaic Idealize.ShloMosaic.TcCoe Idealize.ShloMosaic.ValueIdx

/-- The number a device computes for its first expert is that expert's, -/
theorem word0 (d : Dev nD) : Scalar.addi (Scalar.muli (myId d) 2#32) 0#32 = word (expertOf d 0) := by revert d; decide +kernel
/-- and so for its second. -/
theorem word1 (d : Dev nD) : Scalar.addi (Scalar.muli (myId d) 2#32) 1#32 = word (expertOf d 1) := by revert d; decide +kernel

/-- Device `d`'s expert `j` in the whole list. -/
theorem block_at (E : FVec Ideal Cert.ReferenceIdeal.S16x128x256 .f32) (d : Fin 8) (j : Fin 2) (k : Fin 128) (h : Fin 256)
    (T : Layout.Tiles ⟨3, ![2, 128, 256]⟩ ⟨3, ![16, 128, 256]⟩ 0 8) :
    Layout.block ⟨3, ![2, 128, 256]⟩ ⟨3, ![16, 128, 256]⟩ 0 8 d E T (ix3 j k h) = E (ix3 (expertOf d j) k h) :=
  congrArg E (funext fun a => Fin.ext (by
    match a with
    | ⟨0, _⟩ => exact T.idx_val_self d (ix3 j k h) 0 rfl
    | ⟨1, _⟩ => exact T.idx_val_of_ne d (ix3 j k h) 1 (by decide)
    | ⟨2, _⟩ => exact T.idx_val_of_ne d (ix3 j k h) 2 (by decide)))

variable (m : (ℓ : Loc nD τ sig) → Buf (Elt Ideal) ℓ)
  (x : FVec Ideal S256x128 .f32) (R : FVec Ideal S128x16 .f32) (I : IVec S256x1 32)
  (E : FVec Ideal Cert.ReferenceIdeal.S16x128x256 .f32) (S : FVec Ideal S128x256 .f32)

/-- A device's share of the routed sum, at an element. -/
theorem own_at (d : Dev nD) (hx : m ((d : Thread nD τ).loc main_arg0) = x) (hR : m ((d : Thread nD τ).loc main_arg1) = R)
    (hI : m ((d : Thread nD τ).loc main_arg2) = I)
    (hE : m ((d : Thread nD τ).loc main_arg3) = Layout.block ⟨3, ![2, 128, 256]⟩ ⟨3, ![16, 128, 256]⟩ 0 8 d E) (t h : Fin 256) :
    own m d (ix2 t h) = share (I (ix2 t 0)) (fun e => Ref.probs x R (ix2 t e)) (fun e => ∑ k : Fin 128, x (ix2 t k) * E (ix3 e k h)) d := by
  have e0 (k : Fin 128) : slab0 m d (ix3 0 k h) = E (ix3 (expertOf d 0) k h) := by
    rw [slab0_at, eB_eq, hE]; exact block_at E d 0 k h _
  have e1 (k : Fin 128) : slab1 m d (ix3 0 k h) = E (ix3 (expertOf d 1) k h) := by
    rw [slab1_at, eB_eq, hE]; exact block_at E d 1 k h _
  have p1 : k0_pay1 x = x := shapeCast_self _ _
  have p2 : k0_pay2 (F := Ideal) I = I := shapeCast_self _ _
  unfold own
  rw [share_at, xB_eq, rB_eq, iB_eq, hx, hR, hI, p1, p2, probs_eq, word0, word1]
  simp only [e0, e1]
  rfl

/-- What every device stores is the reference's result. -/
theorem res_eq (hx : ∀ d : Dev nD, m ((d : Thread nD τ).loc main_arg0) = x) (hR : ∀ d : Dev nD, m ((d : Thread nD τ).loc main_arg1) = R)
    (hI : ∀ d : Dev nD, m ((d : Thread nD τ).loc main_arg2) = I)
    (hE : ∀ d : Dev nD, m ((d : Thread nD τ).loc main_arg3) = Layout.block ⟨3, ![2, 128, 256]⟩ ⟨3, ![16, 128, 256]⟩ 0 8 d E)
    (hS : ∀ d : Dev nD, m ((d : Thread nD τ).loc main_arg4) = S) (c : Dev nD) : res m c = Ref.result x R I E S := by
  funext i
  obtain ⟨t, h, rfl⟩ : ∃ (t h : Fin 256), i = ix2 t h := ⟨i 0, i 1, eq_ix2 i⟩
  have hs : shr m c (ix2 t h) = ∑ k : Fin 128, x (ix2 t k) * S (ix2 k h) := by
    unfold shr
    rw [shared_at, xB_eq, sB_eq, hx, hS, show k0_pay1 x = x from shapeCast_self _ _]
  have ha : acc m 3 c (ix2 t h) = pick (I (ix2 t 0)) (fun e => Ref.probs x R (ix2 t e))
      * pick (I (ix2 t 0)) fun e => ∑ k : Fin 128, x (ix2 t k) * E (ix3 e k h) := by
    rw [acc_at, ← sum_share]
    exact Finset.sum_congr rfl fun d _ => own_at m x R I E d (hx d) (hR d) (hI d) (hE d) t h
  refine (addf_apply (acc m 3 c) (shr m c) (ix2 t h)).trans ?_
  rw [ha, hs, Ref.result_at]
  exact add_comm _ _

end Cert.Moe

end
-- ==== Proof.lean ====
module

public import proofs.«01_k».proof.Defs
public import proofs.«01_k».proof.Proof.Gen.Kernel
public import proofs.«01_k».proof.Proof.Gen.ReferenceIdeal.Run
public import proofs.«01_k».proof.Proof.Launch
public import proofs.«01_k».proof.Proof.Equation
public import Idealize.ShloMosaic.Lib.Quiescent

@[expose] public section

noncomputable section

namespace Cert.Proof

open Idealize.ShloMosaic Idealize.ShloMosaic.TcCoe Idealize.SL.Sem Cert.Moe

/-- The reference has no semaphore. -/
theorem no_sems : Cert.ReferenceIdeal.sig.nSem + Cert.ReferenceIdeal.sig.nDmaSem = 0 := by decide

section Run
open Cert.KernelIdeal Cert.KernelIdeal.Gen
variable {F : FTy → Type} [FloatOps F]

/-- The kernel runs over any float values: every device's output array ends holding the result it stores, its arguments
    end as they were, and every semaphore ends at zero. -/
theorem kernel_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c (5 : Fin 6)).trans (out_eq m c),
    (h.1 c (0 : Fin 6)).trans ((dats m 0 c).arrAt_in (0 : Fin 6) rfl _),
    (h.1 c (1 : Fin 6)).trans ((dats m 0 c).arrAt_in (1 : Fin 6) rfl _),
    (h.1 c (2 : Fin 6)).trans ((dats m 0 c).arrAt_in (2 : Fin 6) rfl _),
    (h.1 c (3 : Fin 6)).trans ((dats m 0 c).arrAt_in (3 : Fin 6) rfl _),
    (h.1 c (4 : Fin 6)).trans ((dats m 0 c).arrAt_in (4 : Fin 6) rfl _)⟩, h.2⟩) (run_main m ρ)

/-- So its arguments end as they were, and every semaphore at zero. -/
theorem kernel_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (kernel_run m ρ)
end Run

/-- The kernel at exact operations runs and leaves its arguments and semaphores as it found them. -/
theorem frame_ideal : Cert.quiescent_KernelIdeal (hKernelIdeal := Cert.KernelIdeal.Gen.facts) := fun m ρ _ =>
  kernel_frame (F := Ideal) m ρ

section Text
variable {F : FTy → Type} [FloatOps F]

/-- The two printings of the kernel have the same body, -/
theorem bodies_eq : Cert.Kernel.defs₀ (F := F) = Cert.KernelIdeal.defs₀ (F := F) := by
  funext κ
  cases κ with
  | tc => funext ℓ a; match ℓ with | ⟨0, _⟩ => rfl
  | scScalar _ => rfl
  | scVector _ _ => rfl

/-- and so the same table of bodies. -/
theorem tables_eq : Cert.Kernel.defs (F := F) = Cert.KernelIdeal.defs (F := F) :=
  congrArg (Pipeline.defs Cert.KernelIdeal.pcfgs) bodies_eq
end Text

/-- So does the kernel on bit patterns: its text is the same. -/
theorem frame_kernel : Cert.quiescent_Kernel (hKernel := Cert.Kernel.Gen.facts) := fun m ρ _ => by
  rw [tables_eq]
  exact kernel_frame (F := Bits) m ρ

/-- So does the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems no_sems r.2⟩)
    (Cert.ReferenceIdeal.Value.run (F := Ideal) m ρ)

/-- Every device's result is the reference's. -/
theorem values : Cert.algebraic_KernelIdeal_ReferenceIdeal (hKernelIdeal := Cert.KernelIdeal.Gen.facts)
    (hReferenceIdeal := Cert.ReferenceIdeal.Gen.facts) := by
  intro m ρ m' ρ' _ h
  have hv (c : Dev Cert.KernelIdeal.nD) := res_eq m _ _ _ _ _ (fun d => (h d).1) (fun d => (h d).2.1) (fun d => (h d).2.2.1)
    (fun d => (h d).2.2.2.1) (fun d => (h d).2.2.2.2) c
  exact ⟨_, (θ_run Cert.KernelIdeal.defs _ _).mono (fun _ hr c => ⟨(hr.1 c).1.trans (hv c), (hr.1 c).2⟩) (kernel_run (F := Ideal) m ρ),
    (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, values⟩

end Cert.Proof

end
